-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S2x1024x4096 : Shape := ⟨3, ![2, 1024, 4096]⟩
abbrev S3x4 : Shape := ⟨2, ![3, 4]⟩
abbrev S1024x1024 : Shape := ⟨2, ![1024, 1024]⟩
abbrev S_ : Shape := ⟨0, ![]⟩
abbrev S2x1024x1024 : Shape := ⟨3, ![2, 1024, 1024]⟩
abbrev S2 : Shape := ⟨1, ![2]⟩
abbrev S2x4 : Shape := ⟨2, ![2, 4]⟩
abbrev S1 : Shape := ⟨1, ![1]⟩
abbrev S1x1024x1024 : Shape := ⟨3, ![1, 1024, 1024]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1024x8192, .bf16⟩
  | .local _ .vmem, ⟨0, _⟩ => ⟨S2x1024x4096, .bf16⟩
  | .local _ .vmem, ⟨1, _⟩ => ⟨S2x1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S2x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 25 59 bufScoped semScoped dmaSemScoped tileCredit tileCredit_eq_zero tileCredit_pos).withBarriers [(0, 24)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch8 : Ref sig .tc := ⟨.vmem, 2, rfl⟩
abbrev cc0_scratch9 : Ref sig .tc := ⟨.vmem, 3, rfl⟩
abbrev cc0_scratch11 : Ref sig .tc := ⟨.vmem, 4, rfl⟩
abbrev barrier0 : Sem sig := 24

abbrev nD : Nat := 4
abbrev τ : Topo := Topo.v7x

variable {F : FTy → Type} [FloatOps F]

abbrev grid0 : Pipeline.Grid := .none

def k0_off1 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c3_i32
  let c4_i32_5 : BitVec 32 := 4#32
  let v9 : BitVec 32 := Scalar.remsi v8 c4_i32_5
  let c1024_i32 : BitVec 32 := 1024#32
  let v21 : BitVec 32 := Scalar.muli v9 c1024_i32
  let c0_i32_16 : BitVec 32 := 0#32
  ![v21.toNat, 0]
def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_18 : BitVec 32 := 1#32
  let v24 : BitVec 32 := Scalar.muli v7 c1_i32_18
  let v25 : BitVec 32 := Scalar.addi c0_i32_19 v24
  v25.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_21 : BitVec 32 := 1#32
  let v26 : BitVec 32 := Scalar.muli v4 c1_i32_21
  let v27 : BitVec 32 := Scalar.addi c0_i32_22 v26
  v27.toNat
def k0_off2 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c3_i32
  let c4_i32_5 : BitVec 32 := 4#32
  let v9 : BitVec 32 := Scalar.remsi v8 c4_i32_5
  let c1024_i32_27 : BitVec 32 := 1024#32
  let v32 : BitVec 32 := Scalar.muli v9 c1024_i32_27
  let v33 : Index := Scalar.indexCast v32
  let c0_28 : Index := 0#32
  ![v33.toNat, 0]
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_56 : BitVec 32 := 1#32
  let v60 : BitVec 32 := Scalar.muli v4 c1_i32_56
  let v61 : BitVec 32 := Scalar.addi c0_i32_57 v60
  v61.toNat
def k0_dev4 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_96 : BitVec 32 := 1#32
  let v102 : BitVec 32 := Scalar.muli v7 c1_i32_96
  let v103 : BitVec 32 := Scalar.addi c0_i32_97 v102
  v103.toNat
def k0_dev5 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_127 : BitVec 32 := 1#32
  let v133 : BitVec 32 := Scalar.muli v4 c1_i32_127
  let v134 : BitVec 32 := Scalar.addi c0_i32_128 v133
  v134.toNat
def k0_dev6 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_159 : BitVec 32 := 1#32
  let v164 : BitVec 32 := Scalar.muli v7 c1_i32_159
  let v165 : BitVec 32 := Scalar.addi c0_i32_160 v164
  v165.toNat
def k0_dev7 (d0 : Dev nD) : Nat :=
  let c0_i32_191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_190 : BitVec 32 := 1#32
  let v195 : BitVec 32 := Scalar.muli v4 c1_i32_190
  let v196 : BitVec 32 := Scalar.addi c0_i32_191 v195
  v196.toNat
def k0_dev8 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_222 : BitVec 32 := 1#32
  let v226 : BitVec 32 := Scalar.muli v7 c1_i32_222
  let v227 : BitVec 32 := Scalar.addi c0_i32_223 v226
  v227.toNat
def k0_dev9 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_253 : BitVec 32 := 1#32
  let v257 : BitVec 32 := Scalar.muli v4 c1_i32_253
  let v258 : BitVec 32 := Scalar.addi c0_i32_254 v257
  v258.toNat
def k0_dev10 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_286 : BitVec 32 := 1#32
  let v288 : BitVec 32 := Scalar.muli v7 c1_i32_286
  let v289 : BitVec 32 := Scalar.addi c0_i32_287 v288
  v289.toNat
def k0_dev11 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_356 : BitVec 32 := 1#32
  let v359 : BitVec 32 := Scalar.muli v7 c1_i32_356
  let v360 : BitVec 32 := Scalar.addi c0_i32_357 v359
  v360.toNat
def k0_dev12 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_368 : BitVec 32 := 1#32
  let v363 : BitVec 32 := Scalar.muli v4 c1_i32_368
  let v364 : BitVec 32 := Scalar.addi c0_i32_369 v363
  v364.toNat
def k0_dev13 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_424 : BitVec 32 := 1#32
  let v414 : BitVec 32 := Scalar.muli v4 c1_i32_424
  let v415 : BitVec 32 := Scalar.addi c0_i32_425 v414
  v415.toNat
def k0_dev14 (d0 : Dev nD) : Nat :=
  let c0_i32_437 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_436 : BitVec 32 := 1#32
  let v418 : BitVec 32 := Scalar.muli v7 c1_i32_436
  let v419 : BitVec 32 := Scalar.addi c0_i32_437 v418
  v419.toNat
def k0_dev15 (d0 : Dev nD) : Nat :=
  let c0_i32_493 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_492 : BitVec 32 := 1#32
  let v469 : BitVec 32 := Scalar.muli v7 c1_i32_492
  let v470 : BitVec 32 := Scalar.addi c0_i32_493 v469
  v470.toNat
def k0_dev16 (d0 : Dev nD) : Nat :=
  let c0_i32_505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_504 : BitVec 32 := 1#32
  let v473 : BitVec 32 := Scalar.muli v4 c1_i32_504
  let v474 : BitVec 32 := Scalar.addi c0_i32_505 v473
  v474.toNat
def k0_dev17 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_560 : BitVec 32 := 1#32
  let v524 : BitVec 32 := Scalar.muli v4 c1_i32_560
  let v525 : BitVec 32 := Scalar.addi c0_i32_561 v524
  v525.toNat
def k0_dev18 (d0 : Dev nD) : Nat :=
  let c0_i32_573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_572 : BitVec 32 := 1#32
  let v528 : BitVec 32 := Scalar.muli v7 c1_i32_572
  let v529 : BitVec 32 := Scalar.addi c0_i32_573 v528
  v529.toNat
def k0_dev19 (d0 : Dev nD) : Nat :=
  let c0_i32_629 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_628 : BitVec 32 := 1#32
  let v579 : BitVec 32 := Scalar.muli v7 c1_i32_628
  let v580 : BitVec 32 := Scalar.addi c0_i32_629 v579
  v580.toNat
def k0_dev20 (d0 : Dev nD) : Nat :=
  let c0_i32_641 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_640 : BitVec 32 := 1#32
  let v583 : BitVec 32 := Scalar.muli v4 c1_i32_640
  let v584 : BitVec 32 := Scalar.addi c0_i32_641 v583
  v584.toNat
def k0_dev21 (d0 : Dev nD) : Nat :=
  let c0_i32_697 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_696 : BitVec 32 := 1#32
  let v634 : BitVec 32 := Scalar.muli v4 c1_i32_696
  let v635 : BitVec 32 := Scalar.addi c0_i32_697 v634
  v635.toNat
def k0_dev22 (d0 : Dev nD) : Nat :=
  let c0_i32_709 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_708 : BitVec 32 := 1#32
  let v638 : BitVec 32 := Scalar.muli v7 c1_i32_708
  let v639 : BitVec 32 := Scalar.addi c0_i32_709 v638
  v639.toNat
def k0_dev23 (d0 : Dev nD) : Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_764 : BitVec 32 := 1#32
  let v689 : BitVec 32 := Scalar.muli v7 c1_i32_764
  let v690 : BitVec 32 := Scalar.addi c0_i32_765 v689
  v690.toNat
def k0_dev24 (d0 : Dev nD) : Nat :=
  let c0_i32_777 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_776 : BitVec 32 := 1#32
  let v693 : BitVec 32 := Scalar.muli v4 c1_i32_776
  let v694 : BitVec 32 := Scalar.addi c0_i32_777 v693
  v694.toNat
def k0_dev25 (d0 : Dev nD) : Nat :=
  let c0_i32_833 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_832 : BitVec 32 := 1#32
  let v744 : BitVec 32 := Scalar.muli v4 c1_i32_832
  let v745 : BitVec 32 := Scalar.addi c0_i32_833 v744
  v745.toNat
def k0_dev26 (d0 : Dev nD) : Nat :=
  let c0_i32_845 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_844 : BitVec 32 := 1#32
  let v748 : BitVec 32 := Scalar.muli v7 c1_i32_844
  let v749 : BitVec 32 := Scalar.addi c0_i32_845 v748
  v749.toNat
def k0_dev27 (d0 : Dev nD) : Nat :=
  let c0_i32_895 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_894 : BitVec 32 := 1#32
  let v791 : BitVec 32 := Scalar.muli v7 c1_i32_894
  let v792 : BitVec 32 := Scalar.addi c0_i32_895 v791
  v792.toNat
def k0_dev28 (d0 : Dev nD) : Nat :=
  let c0_i32_913 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_912 : BitVec 32 := 1#32
  let v803 : BitVec 32 := Scalar.muli v4 c1_i32_912
  let v804 : BitVec 32 := Scalar.addi c0_i32_913 v803
  v804.toNat
def k0_dev29 (d0 : Dev nD) : Nat :=
  let c0_i32_963 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_962 : BitVec 32 := 1#32
  let v846 : BitVec 32 := Scalar.muli v4 c1_i32_962
  let v847 : BitVec 32 := Scalar.addi c0_i32_963 v846
  v847.toNat
def k0_dev30 (d0 : Dev nD) : Nat :=
  let c0_i32_981 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_980 : BitVec 32 := 1#32
  let v858 : BitVec 32 := Scalar.muli v7 c1_i32_980
  let v859 : BitVec 32 := Scalar.addi c0_i32_981 v858
  v859.toNat
def k0_dev31 (d0 : Dev nD) : Nat :=
  let c0_i32_1031 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1030 : BitVec 32 := 1#32
  let v901 : BitVec 32 := Scalar.muli v7 c1_i32_1030
  let v902 : BitVec 32 := Scalar.addi c0_i32_1031 v901
  v902.toNat
def k0_dev32 (d0 : Dev nD) : Nat :=
  let c0_i32_1049 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1048 : BitVec 32 := 1#32
  let v913 : BitVec 32 := Scalar.muli v4 c1_i32_1048
  let v914 : BitVec 32 := Scalar.addi c0_i32_1049 v913
  v914.toNat
def k0_dev33 (d0 : Dev nD) : Nat :=
  let c0_i32_1099 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1098 : BitVec 32 := 1#32
  let v956 : BitVec 32 := Scalar.muli v4 c1_i32_1098
  let v957 : BitVec 32 := Scalar.addi c0_i32_1099 v956
  v957.toNat
def k0_dev34 (d0 : Dev nD) : Nat :=
  let c0_i32_1117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1116 : BitVec 32 := 1#32
  let v968 : BitVec 32 := Scalar.muli v7 c1_i32_1116
  let v969 : BitVec 32 := Scalar.addi c0_i32_1117 v968
  v969.toNat
def k0_dev35 (d0 : Dev nD) : Nat :=
  let c0_i32_1167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1166 : BitVec 32 := 1#32
  let v1011 : BitVec 32 := Scalar.muli v7 c1_i32_1166
  let v1012 : BitVec 32 := Scalar.addi c0_i32_1167 v1011
  v1012.toNat
def k0_dev36 (d0 : Dev nD) : Nat :=
  let c0_i32_1185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1184 : BitVec 32 := 1#32
  let v1023 : BitVec 32 := Scalar.muli v4 c1_i32_1184
  let v1024 : BitVec 32 := Scalar.addi c0_i32_1185 v1023
  v1024.toNat
def k0_dev37 (d0 : Dev nD) : Nat :=
  let c0_i32_1235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1234 : BitVec 32 := 1#32
  let v1066 : BitVec 32 := Scalar.muli v4 c1_i32_1234
  let v1067 : BitVec 32 := Scalar.addi c0_i32_1235 v1066
  v1067.toNat
def k0_dev38 (d0 : Dev nD) : Nat :=
  let c0_i32_1253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1252 : BitVec 32 := 1#32
  let v1078 : BitVec 32 := Scalar.muli v7 c1_i32_1252
  let v1079 : BitVec 32 := Scalar.addi c0_i32_1253 v1078
  v1079.toNat
def k0_dev39 (d0 : Dev nD) : Nat :=
  let c0_i32_1303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1302 : BitVec 32 := 1#32
  let v1121 : BitVec 32 := Scalar.muli v7 c1_i32_1302
  let v1122 : BitVec 32 := Scalar.addi c0_i32_1303 v1121
  v1122.toNat
def k0_dev40 (d0 : Dev nD) : Nat :=
  let c0_i32_1321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1320 : BitVec 32 := 1#32
  let v1133 : BitVec 32 := Scalar.muli v4 c1_i32_1320
  let v1134 : BitVec 32 := Scalar.addi c0_i32_1321 v1133
  v1134.toNat
def k0_dev41 (d0 : Dev nD) : Nat :=
  let c0_i32_1371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1370 : BitVec 32 := 1#32
  let v1176 : BitVec 32 := Scalar.muli v4 c1_i32_1370
  let v1177 : BitVec 32 := Scalar.addi c0_i32_1371 v1176
  v1177.toNat
def k0_dev42 (d0 : Dev nD) : Nat :=
  let c0_i32_1389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1388 : BitVec 32 := 1#32
  let v1188 : BitVec 32 := Scalar.muli v7 c1_i32_1388
  let v1189 : BitVec 32 := Scalar.addi c0_i32_1389 v1188
  v1189.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.KernelIdeal.Prog.lean ====
/-
The kernel as a program of its own words: thirty-two tile steps, each a short list of memory operations
with the ring (`r`), the column tile (`j`) and the devices addressed as parameters, in place of the
printed text cut every sixty statements. `body_eq` says the two are one program.
-/
module

public import proofs.«01_k».proof.Proof.Gen.KernelIdeal.Frame
public import proofs.«01_k».proof.Proof.Gen.KernelIdeal.Skeleton

@[expose] public section

set_option maxRecDepth 65536

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

/-! ## The memrefs and semaphores, by ring, hop and tile -/

/-- Ring `r`'s two-slot buffer. -/
abbrev bufM (r : Fin 2) : Memref sig .tc .vmem S2x1024x4096 .bf16 := match r with | 0 => Memref.whole cc0_scratch0 | 1 => Memref.whole cc0_scratch1
theorem bufM_whole (r : Fin 2) : (bufM r).IsWhole := match r with | 0 => Memref.isWhole_whole _ | 1 => Memref.isWhole_whole _
abbrev sndA (r : Fin 2) : DmaSems sig S3x4 := match r with | 0 => cc0_scratch2 | 1 => cc0_scratch4
abbrev rcvA (r : Fin 2) : DmaSems sig S3x4 := match r with | 0 => cc0_scratch3 | 1 => cc0_scratch5
abbrev crdA (r : Fin 2) : Sems sig S3x4 := match r with | 0 => cc0_scratch6 | 1 => cc0_scratch7

theorem inb34 : ∀ (h : Fin 3) (j : Fin 4), ∀ a, (![h.val, j.val] : Fin 2 → Nat) a + S1x1.size a ≤ S3x4.size a := by decide
theorem inb24 : ∀ (r : Fin 2) (j : Fin 4), ∀ a, (![r.val, j.val] : Fin 2 → Nat) a + S1x1.size a ≤ S2x4.size a := by decide
theorem inb2 : ∀ (r : Fin 2), ∀ a, (![r.val] : Fin 1 → Nat) a + S1.size a ≤ S2.size a := by decide
theorem inbT : ∀ (s : Fin 2) (j : Fin 4), ∀ a, (![s.val, 0, 1024 * j.val] : Fin 3 → Nat) a + S1x1024x1024.size a ≤ S2x1024x4096.size a := by decide
theorem wordsT : ∀ (s : Fin 2) (j : Fin 4), (Rect.unit (s := S2x1024x4096) ![s.val, 0, 1024 * j.val] S1x1024x1024.size (inbT s j)).WholeWords (EltTy.packing .bf16) := by decide
theorem packedT : ∀ (s : Fin 2) (j : Fin 4), (Rect.unit (s := S2x1024x4096) ![s.val, 0, 1024 * j.val] S1x1024x1024.size (inbT s j)).PackedRows (EltTy.packing .bf16) := by decide
theorem inbW : ∀ (r : Fin 2) (j : Fin 4), ∀ a, (![0, 4096 * r.val + 1024 * j.val] : Fin 2 → Nat) a + S1024x1024.size a ≤ S1024x8192.size a := by decide
theorem wordsW : ∀ (r : Fin 2) (j : Fin 4), (Rect.unit (s := S1024x8192) ![0, 4096 * r.val + 1024 * j.val] S1024x1024.size (inbW r j)).WholeWords (EltTy.packing .bf16) := by decide
theorem inbS : ∀ (r : Fin 2), ∀ a, (![r.val, 0, 0] : Fin 3 → Nat) a + S1x1024x1024.size a ≤ S2x1024x1024.size a := by decide

abbrev sndS (r : Fin 2) (h : Fin 3) (j : Fin 4) : DmaSem sig := (((sndA r).slice (Rect.unit (s := S3x4) ![h.val, j.val] S1x1.size (inb34 h j))).squeeze S_ squeezes_S1x1_S_).sem
abbrev rcvS (r : Fin 2) (h : Fin 3) (j : Fin 4) : DmaSem sig := (((rcvA r).slice (Rect.unit (s := S3x4) ![h.val, j.val] S1x1.size (inb34 h j))).squeeze S_ squeezes_S1x1_S_).sem
abbrev crdS (r : Fin 2) (h : Fin 3) (j : Fin 4) : Sem sig := (((crdA r).slice (Rect.unit (s := S3x4) ![h.val, j.val] S1x1.size (inb34 h j))).squeeze S_ squeezes_S1x1_S_).sem
abbrev outS (r : Fin 2) (j : Fin 4) : DmaSem sig := ((cc0_scratch13.slice (Rect.unit (s := S2x4) ![r.val, j.val] S1x1.size (inb24 r j))).squeeze S_ squeezes_S1x1_S_).sem
abbrev wS (r : Fin 2) : DmaSem sig := ((cc0_scratch12.slice (Rect.unit (s := S2) ![r.val] S1.size (inb2 r))).squeeze S_ squeezes_S1_S_).sem
abbrev xS : DmaSem sig := cc0_scratch10.sem
abbrev barS : Sem sig := (SemArray.scalar (sig.barrier 0 rfl) : Sems sig S_).sem

/-- Tile `j` of slot `s` of ring `r`'s buffer: as the three-axis block a load or store addresses, -/
abbrev tileR (s : Fin 2) (j : Fin 4) : Rect S2x1024x4096 := Rect.unit (s := S2x1024x4096) ![s.val, 0, 1024 * j.val] S1x1024x1024.size (inbT s j)
/-- and as the square a transfer names. -/
abbrev tileM (r s : Fin 2) (j : Fin 4) : Memref sig .tc .vmem S1024x1024 .bf16 :=
  ((bufM r).slice (tileR s j) (fun _ => rfl)).squeeze S1024x1024 squeezes_S1x1024x1024_S1024x1024
abbrev xA : Memref sig .tc .hbm S4096x1024 .f32 := Memref.whole main_arg0
abbrev wA : Memref sig .tc .hbm S1024x8192 .f32 := Memref.whole main_arg1
abbrev oA : Memref sig .tc .hbm S1024x8192 .bf16 := Memref.whole main_v1
abbrev xbM : Memref sig .tc .vmem S4096x1024 .bf16 := Memref.whole cc0_scratch8
abbrev xsM : Memref sig .tc .vmem S1024x1024 .f32 := Memref.whole cc0_scratch9
abbrev wsM : Memref sig .tc .vmem S2x1024x1024 .f32 := Memref.whole cc0_scratch11
/-- Column tile `(r, j)` of a `1024 × 8192` array. -/
abbrev colR (r : Fin 2) (j : Fin 4) : Rect S1024x8192 := Rect.unit (s := S1024x8192) ![0, 4096 * r.val + 1024 * j.val] S1024x1024.size (inbW r j)
abbrev wT (r : Fin 2) (j : Fin 4) : Memref sig .tc .hbm S1024x1024 .f32 := wA.slice (colR r j) (fun _ => rfl)
abbrev oT (r : Fin 2) (j : Fin 4) : Memref sig .tc .hbm S1024x1024 .bf16 := oA.slice (colR r j) (fun _ => rfl)
abbrev slotR (r : Fin 2) : Rect S2x1024x1024 := Rect.unit (s := S2x1024x1024) ![r.val, 0, 0] S1x1024x1024.size (inbS r)
abbrev wsT (r : Fin 2) : Memref sig .tc .vmem S1024x1024 .f32 := (wsM.slice (slotR r) (fun _ => rfl)).squeeze S1024x1024 squeezes_S1x1024x1024_S1024x1024
/-- Row chunk `(d + i) mod 4` of the operand, as device `d` addresses it; -/
abbrev xR (d : Dev nD) (i : Fin 4) : Rect S4096x1024 := Rect.unit (s := S4096x1024) (k0_off1 d (BitVec.ofNat 32 i.val)) S1024x1024.size (k0_off1_inb d i)
abbrev xT (d : Dev nD) (i : Fin 4) : Memref sig .tc .hbm S1024x1024 .f32 := xA.slice (xR d i) (fun _ => rfl)
/-- and of its copy in the narrow format. -/
abbrev xbR (d : Dev nD) (i : Fin 4) : Rect S4096x1024 := Rect.unit (s := S4096x1024) (k0_off2 d (BitVec.ofNat 32 i.val)) S1024x1024.size (k0_off2_inb d i)

theorem tile_words (r s : Fin 2) (j : Fin 4) : (tileM r s j).view.WordExact := ((bufM_whole r).wordExact_slice rfl _ (wordsT s j)).reshape _ _
theorem oT_words (r : Fin 2) (j : Fin 4) : (oT r j).view.WordExact := (Memref.isWhole_whole main_v1).wordExact_slice rfl _ (wordsW r j)

/-! ## The values stored -/

def dotV (x : Vec F S1024x1024 .bf16) (w : Vec F S1x1024x1024 .f32) : FVec F S1024x1024 .f32 :=
  matmul dot_S1024x1024_S1024x1024_S1024x1024_1_0_0_1_n_n none x
    (truncf .bf16 (shapeCast S1024x1024 w shapeCasts_S1x1024x1024_S1024x1024 : FVec F S1024x1024 .f32) bitsLt_bf16_f32) (constant S1024x1024 .f32 0x00000000#32)
def packV (y : FVec F S1024x1024 .f32) : FVec F S1x1024x1024 .bf16 :=
  shapeCast S1x1024x1024 (truncf .bf16 y bitsLt_bf16_f32 : FVec F S1024x1024 .bf16) shapeCasts_S1024x1024_S1x1024x1024
def sumV (v : Vec F S1x1024x1024 .bf16) (y : FVec F S1024x1024 .f32) : FVec F S1024x1024 .f32 :=
  addf (extf .f32 (shapeCast S1024x1024 v shapeCasts_S1x1024x1024_S1024x1024 : FVec F S1024x1024 .bf16) bitsLt_bf16_f32) y
def geluV (y : FVec F S1024x1024 .f32) : FVec F S1024x1024 .f32 :=
  mulf (mulf (broadcast S1024x1024 (Scalar.ofBits .f32 0x3F000000#32 : F .f32)) y)
    (addf (broadcast S1024x1024 (Scalar.ofBits .f32 0x3F800000#32 : F .f32))
      (tanh (mulf (broadcast S1024x1024 (Scalar.ofBits .f32 0x3F4C422A#32 : F .f32))
        (addf y (mulf (mulf (mulf (broadcast S1024x1024 (Scalar.ofBits .f32 0x3D372713#32 : F .f32)) y) y) y)))))
def halfV (x : Vec F S1024x1024 .f32) : FVec F S1024x1024 .bf16 :=
  shapeCast S1024x1024 (truncf .bf16 x bitsLt_bf16_f32 : FVec F S1024x1024 .bf16) shapeCasts_S1024x1024_S1024x1024

/-! ## The program -/

abbrev TP (F : FTy → Type) [FloatOps F] (α : Type) : Type 1 := Prog (TpuEff nD τ sig (Elt F) Λ₀ .tc) α

abbrev wStart (r : Fin 2) (j : Fin 4) : TP F PUnit :=
  Prog.lift (.enqueueDma (wT r j) (.here (wsT r)) (.dma (wS r)) (View.wordExact_bits rfl) ((View.wordExact_bits rfl).reshape _ _) ⟨Or.inl rfl, trivial⟩)
abbrev wWait (r : Fin 2) (j : Fin 4) : TP F PUnit :=
  Prog.lift (.waitDma2 (wS r) (wT r j) (wsT r) (View.wordExact_bits rfl) ((View.wordExact_bits rfl).reshape _ _))
abbrev xStart (d : Dev nD) (i : Fin 4) : TP F PUnit :=
  Prog.lift (.enqueueDma (xT d i) (.here xsM) (.dma xS) (View.wordExact_bits rfl) (Memref.isWhole_whole cc0_scratch9).wordExact ⟨Or.inl rfl, trivial⟩)
abbrev xWait (d : Dev nD) (i : Fin 4) : TP F PUnit :=
  Prog.lift (.waitDma2 xS (xT d i) xsM (View.wordExact_bits rfl) (Memref.isWhole_whole cc0_scratch9).wordExact)
abbrev xbLoad (d : Dev nD) (i : Fin 4) : TP F (Vec F S1024x1024 .bf16) :=
  Prog.lift (.load xbM (xbR d i).toLoadRect (View.loadsAt_vmem h_S1024x1024))
/-- One row chunk brought in and narrowed; the next chunk's copy is the caller's. -/
abbrev xConv (d : Dev nD) (i : Fin 4) : TP F PUnit := do
  xWait d i
  let v : Vec F S1024x1024 .f32 ← Prog.lift (.load xsM (Rect.unit (s := S1024x1024) ![0, 0] S1024x1024.size inb_S1024x1024_S1024x1024_0_0).toLoadRect (View.loadsAt_vmem h_S1024x1024))
  let _ : Vec F S1024x1024 .bf16 ← xbLoad d i
  Prog.lift (.store xbM (xbR d i) (halfV v) Finset.univ
    (View.stores_vmem h_S1024x1024 ((Memref.isWhole_whole cc0_scratch8).storeExact_slice rfl _ (k0_off2_packedbf16 d i)) (fun _ => rfl)) (.inl rfl))
abbrev wsLoad (r : Fin 2) : TP F (Vec F S1x1024x1024 .f32) :=
  Prog.lift (.load wsM (slotR r).toLoadRect (View.loadsAt_vmem h_S1x1024x1024))
abbrev tLoad (r s : Fin 2) (j : Fin 4) : TP F (Vec F S1x1024x1024 .bf16) :=
  Prog.lift (.load (bufM r) (tileR s j).toLoadRect (View.loadsAt_vmem h_S1x1024x1024))
abbrev tStore (r s : Fin 2) (j : Fin 4) (v : Vec F S1x1024x1024 .bf16) : TP F PUnit :=
  Prog.lift (.store (bufM r) (tileR s j) v Finset.univ
    (View.stores_vmem h_S1x1024x1024 ((bufM_whole r).storeExact_slice rfl _ (packedT s j)) (fun _ => rfl)) (.inl rfl))
/-- The slot hop `h` sends from, and the one it lands in. -/
abbrev src (h : Fin 3) : Fin 2 := match h with | 0 => 0 | 1 => 1 | 2 => 0
abbrev dst (h : Fin 3) : Fin 2 := match h with | 0 => 1 | 1 => 0 | 2 => 1
abbrev rSend (r : Fin 2) (h : Fin 3) (j : Fin 4) (n : Dev nD) : TP F PUnit :=
  Prog.lift (.enqueueDma (tileM r (src h) j) (.remote (Dev.tc n) (tileM r (dst h) j) (.dma (sndS r h j))) (.dma (rcvS r h j))
    (tile_words r (src h) j) (tile_words r (dst h) j) ⟨⟨rfl, Or.inl rfl⟩, trivial⟩)
abbrev rWaitR (r : Fin 2) (h : Fin 3) (j : Fin 4) : TP F PUnit :=
  Prog.lift (.waitDma2 (rcvS r h j) (tileM r (src h) j) (tileM r (dst h) j) (tile_words r (src h) j) (tile_words r (dst h) j))
abbrev rWaitS (r : Fin 2) (h : Fin 3) (j : Fin 4) : TP F PUnit :=
  Prog.lift (.waitDma2 (sndS r h j) (tileM r (dst h) j) (tileM r (src h) j) (tile_words r (dst h) j) (tile_words r (src h) j))
abbrev oStart (r : Fin 2) (j : Fin 4) : TP F PUnit :=
  Prog.lift (.enqueueDma (tileM r 0 j) (.here (oT r j)) (.dma (outS r j)) (tile_words r 0 j) (oT_words r j) ⟨Or.inl rfl, trivial⟩)
abbrev oWait (r : Fin 2) (j : Fin 4) : TP F PUnit :=
  Prog.lift (.waitDma2 (outS r j) (tileM r 0 j) (oT r j) (tile_words r 0 j) (oT_words r j))

/-- A tile step of the first phase: its partial product into slot 0, sent one hop. -/
abbrev step0 (d : Dev nD) (r : Fin 2) (j : Fin 4) (i : Fin 4) (n : Dev nD) : TP F PUnit := do
  wWait r j
  let x ← xbLoad d i
  let w ← wsLoad r
  let _ ← tLoad r 0 j
  tStore r 0 j (packV (dotV x w))
  rSend r 0 j n
abbrev step1 (d : Dev nD) (r : Fin 2) (j : Fin 4) (i : Fin 4) (u n : Dev nD) : TP F PUnit := do
  wWait r j
  let x ← xbLoad d i
  let w ← wsLoad r
  rWaitR r 0 j
  let v ← tLoad r 1 j
  let _ ← tLoad r 1 j
  tStore r 1 j (packV (sumV v (dotV x w)))
  rWaitS r 0 j
  semSignalWord u (crdS r 1 j) 1#32
  semWaitWord (crdS r 1 j) 1#32
  rSend r 1 j n
abbrev step2 (d : Dev nD) (r : Fin 2) (j : Fin 4) (i : Fin 4) (u n : Dev nD) : TP F PUnit := do
  wWait r j
  let x ← xbLoad d i
  let w ← wsLoad r
  rWaitR r 1 j
  rWaitS r 1 j
  semSignalWord u (crdS r 2 j) 1#32
  let v ← tLoad r 0 j
  let _ ← tLoad r 0 j
  tStore r 0 j (packV (sumV v (dotV x w)))
  semWaitWord (crdS r 2 j) 1#32
  rSend r 2 j n
abbrev step3 (d : Dev nD) (r : Fin 2) (j : Fin 4) (i : Fin 4) : TP F PUnit := do
  wWait r j
  let x ← xbLoad d i
  let w ← wsLoad r
  rWaitR r 2 j
  rWaitS r 2 j
  let v ← tLoad r 1 j
  let _ ← tLoad r 0 j
  tStore r 0 j (packV (geluV (sumV v (dotV x w))))
  oStart r j

/-- The kernel's body. -/
def prog : TP F PUnit := do
  let d ← Prog.lift .deviceId
  wStart 0 0
  xStart d 3
  semSignalWord ⟨k0_dev1 d, k0_dev1_lt d⟩ barS 1#32
  semSignalWord ⟨k0_dev2 d, k0_dev2_lt d⟩ barS 1#32
  semWaitWord barS 2#32
  xConv d 3
  xStart d 1
  wStart 1 0
  step0 d 0 0 3 ⟨k0_dev3 d, k0_dev3_lt d⟩
  xConv d 1
  xStart d 2
  wStart 0 1
  step0 d 1 0 1 ⟨k0_dev4 d, k0_dev4_lt d⟩
  wStart 1 1
  step0 d 0 1 3 ⟨k0_dev5 d, k0_dev5_lt d⟩
  wStart 0 2
  step0 d 1 1 1 ⟨k0_dev6 d, k0_dev6_lt d⟩
  wStart 1 2
  step0 d 0 2 3 ⟨k0_dev7 d, k0_dev7_lt d⟩
  wStart 0 3
  step0 d 1 2 1 ⟨k0_dev8 d, k0_dev8_lt d⟩
  wStart 1 3
  step0 d 0 3 3 ⟨k0_dev9 d, k0_dev9_lt d⟩
  wStart 0 0
  step0 d 1 3 1 ⟨k0_dev10 d, k0_dev10_lt d⟩
  xConv d 2
  xStart d 0
  xConv d 0
  wStart 1 0
  step1 d 0 0 2 ⟨k0_dev11 d, k0_dev11_lt d⟩ ⟨k0_dev12 d, k0_dev12_lt d⟩
  wStart 0 1
  step1 d 1 0 2 ⟨k0_dev13 d, k0_dev13_lt d⟩ ⟨k0_dev14 d, k0_dev14_lt d⟩
  wStart 1 1
  step1 d 0 1 2 ⟨k0_dev15 d, k0_dev15_lt d⟩ ⟨k0_dev16 d, k0_dev16_lt d⟩
  wStart 0 2
  step1 d 1 1 2 ⟨k0_dev17 d, k0_dev17_lt d⟩ ⟨k0_dev18 d, k0_dev18_lt d⟩
  wStart 1 2
  step1 d 0 2 2 ⟨k0_dev19 d, k0_dev19_lt d⟩ ⟨k0_dev20 d, k0_dev20_lt d⟩
  wStart 0 3
  step1 d 1 2 2 ⟨k0_dev21 d, k0_dev21_lt d⟩ ⟨k0_dev22 d, k0_dev22_lt d⟩
  wStart 1 3
  step1 d 0 3 2 ⟨k0_dev23 d, k0_dev23_lt d⟩ ⟨k0_dev24 d, k0_dev24_lt d⟩
  wStart 0 0
  step1 d 1 3 2 ⟨k0_dev25 d, k0_dev25_lt d⟩ ⟨k0_dev26 d, k0_dev26_lt d⟩
  wStart 1 0
  step2 d 0 0 1 ⟨k0_dev27 d, k0_dev27_lt d⟩ ⟨k0_dev28 d, k0_dev28_lt d⟩
  wStart 0 1
  step2 d 1 0 3 ⟨k0_dev29 d, k0_dev29_lt d⟩ ⟨k0_dev30 d, k0_dev30_lt d⟩
  wStart 1 1
  step2 d 0 1 1 ⟨k0_dev31 d, k0_dev31_lt d⟩ ⟨k0_dev32 d, k0_dev32_lt d⟩
  wStart 0 2
  step2 d 1 1 3 ⟨k0_dev33 d, k0_dev33_lt d⟩ ⟨k0_dev34 d, k0_dev34_lt d⟩
  wStart 1 2
  step2 d 0 2 1 ⟨k0_dev35 d, k0_dev35_lt d⟩ ⟨k0_dev36 d, k0_dev36_lt d⟩
  wStart 0 3
  step2 d 1 2 3 ⟨k0_dev37 d, k0_dev37_lt d⟩ ⟨k0_dev38 d, k0_dev38_lt d⟩
  wStart 1 3
  step2 d 0 3 1 ⟨k0_dev39 d, k0_dev39_lt d⟩ ⟨k0_dev40 d, k0_dev40_lt d⟩
  wStart 0 0
  step2 d 1 3 3 ⟨k0_dev41 d, k0_dev41_lt d⟩ ⟨k0_dev42 d, k0_dev42_lt d⟩
  wStart 1 0
  step3 d 0 0 0
  wStart 0 1
  step3 d 1 0 0
  wStart 1 1
  step3 d 0 1 0
  wStart 0 2
  step3 d 1 1 0
  wStart 1 2
  step3 d 0 2 0
  wStart 0 3
  step3 d 1 2 0
  wStart 1 3
  step3 d 0 3 0
  step3 d 1 3 0
  oWait 0 0
  oWait 1 0
  oWait 0 1
  oWait 1 1
  oWait 0 2
  oWait 1 2
  oWait 0 3
  oWait 1 3

set_option maxHeartbeats 4000000 in
/-- The printed body is `prog`. -/
theorem body_eq (t : Fin cfg0.N) : bodyAt0 (F := F) t = prog (F := F) := by
  simp only [bodyAt0, cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, prog,
    Prog.lift, Prog.bind_op, Prog.bind_ret, Prog.pure_eq_ret, Prog.bind_assoc]
  rfl

end Cert.KernelIdeal.Run

end
-- ==== Proof.KernelIdeal.Sched.lean ====
/-
The protocol of the two rings: who may signal whom, what each signal hands over, and in what order the
waits stand.

Every device has one barrier cell and, for each ring, hop and column tile, a send cell, a receive cell and
a credit cell; each is used for one round. The receive cells' payloads carry the running sums themselves
(`sv`), so that the run says what every tile holds and the output follows.
-/
module

public import proofs.«01_k».proof.Proof.KernelIdeal.Prog
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, the rings' rounds (a duty is a ring's number), and the
counters of the local copies -/

abbrev UB : Type := URounds (GSem nD τ sig) (Fin 2)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb
instance ER_landsIn : (ER : Emb UB 𝕄).LandsIn (upEmb : UEmb _ 𝕄) := by unfold ER; infer_instance

/-! ## The rings -/

set_option backward.proofsInPublic true in
/-- The device ring `r` sends to, -/
def dn (r : Fin 2) (c : Dev nD) : Dev nD := ⟨(c.val + (if r = 0 then 1 else 3)) % 4, Nat.mod_lt _ (by decide)⟩
set_option backward.proofsInPublic true in
/-- and the one it receives from. -/
def up (r : Fin 2) (c : Dev nD) : Dev nD := ⟨(c.val + (if r = 0 then 3 else 1)) % 4, Nat.mod_lt _ (by decide)⟩
theorem dn_up (r : Fin 2) (c : Dev nD) : dn r (up r c) = c := by revert r c; decide
theorem up_dn (r : Fin 2) (c : Dev nD) : up r (dn r c) = c := by revert r c; decide
def ringE (r : Fin 2) : Dev nD ≃ Dev nD := ⟨dn r, up r, up_dn r, dn_up r⟩

/-! ## Contents -/

variable (m : (ℓ : Loc nD τ sig) → Buf (Elt F) ℓ) (ρ : Dev nD → PrngReg)

def s₀ : MemSt nD τ sig (Elt F) := ⟨m, fun _ => 0, ρ⟩

def xin (c : Dev nD) : Vec F S4096x1024 .f32 := m ((c : Thread nD τ).loc main_arg0)
def win (c : Dev nD) : Vec F S1024x8192 .f32 := m ((c : Thread nD τ).loc main_arg1)
def xpart (c : Dev nD) (i : Fin 4) : Vec F S1024x1024 .f32 := fun t => xin m c ((xR c i).emb t)
def wpart (c : Dev nD) (r : Fin 2) (j : Fin 4) : Vec F S1024x1024 .f32 := fun t => win m c ((colR r j).emb t)
/-- Device `c`'s partial product of row chunk `(c + i) mod 4` and column tile `(r, j)`. -/
def prod (c : Dev nD) (r : Fin 2) (j i : Fin 4) : FVec F S1024x1024 .f32 :=
  matmul dot_S1024x1024_S1024x1024_S1024x1024_1_0_0_1_n_n none (halfV (xpart m c i)) (truncf .bf16 (wpart m c r j) bitsLt_bf16_f32) (constant S1024x1024 .f32 0x00000000#32)
/-- The row chunk ring `r` works on in phase `p`. -/
def ci (r : Fin 2) : ℕ → Fin 4
  | 0 => if r = 0 then 3 else 1
  | 1 => 2
  | 2 => if r = 0 then 1 else 3
  | _ => 0
/-- What device `c` sends on hop `h` of ring `r`, tile `j`. -/
def sv (r : Fin 2) (j : Fin 4) : ℕ → Dev nD → FVec F S1024x1024 .bf16
  | 0, c => truncf .bf16 (prod m c r j (ci r 0)) bitsLt_bf16_f32
  | h + 1, c => truncf .bf16 (addf (extf .f32 (sv r j h (up r c)) bitsLt_bf16_f32) (prod m c r j (ci r (h + 1)))) bitsLt_bf16_f32
/-- What it leaves in tile `(r, j)` of the result. -/
def fin (c : Dev nD) (r : Fin 2) (j : Fin 4) : FVec F S1024x1024 .bf16 :=
  truncf .bf16 (geluV (addf (extf .f32 (sv m r j 2 (up r c)) bitsLt_bf16_f32) (prod m c r j (ci r 3)))) bitsLt_bf16_f32

/-! ## The cells -/

/-- A cell of one device: the barrier, or (send, receive, credit) of a ring, a hop and a tile. -/
abbrev CIx : Type := Option (Fin 3 × Fin 2 × Fin 3 × Fin 4)
def enc : CIx → SemLoc sig
  | none => .reg barS
  | some (0, r, h, j) => .dma (sndS r h j)
  | some (1, r, h, j) => .dma (rcvS r h j)
  | some (2, r, h, j) => .reg (crdS r h j)
set_option backward.proofsInPublic true in
def dec : SemLoc sig → Option CIx
  | .reg s => if s.val < 24 then some (some (2, ⟨(s.val / 12) % 2, Nat.mod_lt _ (by decide)⟩, ⟨(s.val / 4) % 3, Nat.mod_lt _ (by decide)⟩, ⟨s.val % 4, Nat.mod_lt _ (by decide)⟩)) else some none
  | .dma s => if s.val < 48 then
      some (some (if (s.val / 12) % 2 = 0 then 0 else 1, ⟨(s.val / 24) % 2, Nat.mod_lt _ (by decide)⟩, ⟨(s.val / 4) % 3, Nat.mod_lt _ (by decide)⟩, ⟨s.val % 4, Nat.mod_lt _ (by decide)⟩)) else none
set_option maxRecDepth 100000 in
theorem dec_enc (x : CIx) : dec (enc x) = some x := by
  revert x; decide +kernel
theorem enc_injective : Function.Injective enc := fun x y h => by
  have := congrArg dec h; rw [dec_enc, dec_enc] at this; exact Option.some.inj this
abbrev cell (d : Dev nD) (x : CIx) : GSem nD τ sig := ((d : Thread nD τ), enc x)
theorem dec_wS : ∀ r, dec (.dma (wS r)) = none := by decide +kernel
theorem dec_xS : dec (.dma xS) = none := by decide +kernel
theorem dec_outS : ∀ r j, dec (.dma (outS r j)) = none := by decide +kernel

/-- A tile's transfer credit, the same for every tile. It is held by name, so that nothing computes it. -/
theorem N_exists : ∃ n : ℕ, n = (tileM 0 0 0).view.dmaCredit := ⟨_, rfl⟩
def N : ℕ := N_exists.choose
theorem N_eq : N = (tileM 0 0 0).view.dmaCredit := N_exists.choose_spec
theorem N_pos : 0 < N := by rw [N_eq]; exact View.dmaCredit_pos _ (by decide)
theorem tile_credit_zero (r s : Fin 2) (j : Fin 4) : (tileM r s j).view.dmaCredit = (tileM 0 0 0).view.dmaCredit := by revert r s j; decide +kernel
theorem tile_credit (r s : Fin 2) (j : Fin 4) : (tileM r s j).view.dmaCredit = N := (tile_credit_zero r s j).trans N_eq.symm

abbrev tileEx (d : Dev nD) (r s : Fin 2) (j : Fin 4) : sProp 𝕄 := iprop(∃ X, ownsTc d (tileM r s j) fullShare X)

/-- What a duty of a cell hands the cell's owner `d`. -/
def pay (d : Dev nD) : CIx → Fin 2 → sProp 𝕄
  | none, r => bigSep Finset.univ fun j : Fin 4 => tileEx (F := F) (dn r d) r 1 j
  | some (0, r, h, j), _ => tileEx d r (src h) j
  | some (1, r, h, j), _ => ownsTc d (tileM r (dst h) j) fullShare (sv m r j h.val (up r d))
  | some (2, r, h, j), _ => tileEx (dn r d) r (dst h) j
instance pay_storable (d : Dev nD) (x : CIx) (u : Fin 2) : BI.Storable (upEmb : UEmb _ 𝕄) (pay m d x u) := by
  unfold pay; split <;> infer_instance

def dut : CIx → Finset (Fin 2)
  | none => Finset.univ
  | some (2, _, 0, _) => ∅
  | some _ => {0}
def amt : CIx → ℕ
  | some (0, _) => N
  | some (1, _) => N
  | _ => 1
theorem amt_pos (x : CIx) : 0 < amt x := by unfold amt; split <;> first | exact N_pos | exact Nat.one_pos

def sched : Rounds.Schedule (GSem nD τ sig) (Fin 2) 𝕄 where
  duties g r := if r = 0 ∧ g.1.2 = .tc then (match dec g.2 with | some x => dut x | none => ∅) else ∅
  unitless _ := False
  amount g _ _ := match dec g.2 with | some x => amt x | none => 1
  payload g _ u := match dec g.2 with | some x => pay m g.1.1 x u | none => iprop(emp)
  amount_pos g _ _ _ := by split; exacts [amt_pos _, Nat.one_pos]
instance sched_storable (g : GSem nD τ sig) (r : ℕ) (u : Fin 2) : BI.Storable (upEmb : UEmb _ 𝕄) ((sched m).payload g r u) := by
  show BI.Storable upEmb (match dec g.2 with | some x => pay m g.1.1 x u | none => iprop(emp))
  split <;> infer_instance

theorem duties_eq (d : Dev nD) (x : CIx) : (sched m).duties (cell d x) 0 = dut x := by
  dsimp only [sched]; rw [if_pos ⟨rfl, rfl⟩, dec_enc]
theorem duties_later (g : GSem nD τ sig) : ∀ r, 1 ≤ r → (sched m).duties g r = ∅ :=
  fun r hr => by dsimp only [sched]; exact if_neg fun h => by omega
theorem amount_eq (d : Dev nD) (x : CIx) (r : ℕ) (u : Fin 2) : (sched m).amount (cell d x) r u = amt x := by dsimp only [sched]; rw [dec_enc]
theorem payload_eq (d : Dev nD) (x : CIx) (r : ℕ) (u : Fin 2) : (sched m).payload (cell d x) r u = pay m d x u := by dsimp only [sched]; rw [dec_enc]
theorem expect_eq (d : Dev nD) (x : CIx) : (sched m).expect (cell d x) 0 = (dut x).card * amt x := by
  unfold Schedule.expect Schedule.amountOf
  rw [duties_eq, Finset.sum_congr rfl (fun u _ => amount_eq m d x 0 u), Finset.sum_const, smul_eq_mul]

/-! ## What each device owes, in the order it pays; the levels -/

inductive Due where
  | bar (r : Fin 2)
  | rcv (r : Fin 2) (h : Fin 3) (j : Fin 4)
  | crd (r : Fin 2) (h : Fin 3) (j : Fin 4)
  deriving DecidableEq

def dueIx : Due → CIx
  | .bar _ => none
  | .rcv r h j => some (1, r, h, j)
  | .crd r h j => some (2, r, h, j)
/-- The device whose cell `c` pays. -/
def dueDev (c : Dev nD) : Due → Dev nD
  | .bar r => up r c
  | .rcv r _ _ => dn r c
  | .crd r _ _ => up r c
abbrev dueCell (c : Dev nD) (x : Due) : GSem nD τ sig := cell (dueDev c x) (dueIx x)
abbrev dueAmt (x : Due) : ℕ := amt (dueIx x)
/-- A cell's level: the order of the tile steps. -/
def ixLv : CIx → ℕ
  | none => 1
  | some (0, _) => 0
  | some (1, r, h, j) => 11 + 2 * (8 * h.val + 2 * j.val + r.val)
  | some (2, r, h, j) => 10 + 2 * (8 * h.val + 2 * j.val + r.val)
def oblig (c : Dev nD) : List Due → CellTallies nD τ sig Unit
  | [] => 0
  | x :: l => oblig c l + tallyAt (dueCell c x) () (dueAmt x)
def hopDues (h : Fin 3) : List Due :=
  [.crd 0 h 0, .rcv 0 h 0, .crd 1 h 0, .rcv 1 h 0, .crd 0 h 1, .rcv 0 h 1, .crd 1 h 1, .rcv 1 h 1,
   .crd 0 h 2, .rcv 0 h 2, .crd 1 h 2, .rcv 1 h 2, .crd 0 h 3, .rcv 0 h 3, .crd 1 h 3, .rcv 1 h 3]
def dues : List Due :=
  [.bar 0, .bar 1, .rcv 0 0 0, .rcv 1 0 0, .rcv 0 0 1, .rcv 1 0 1, .rcv 0 0 2, .rcv 1 0 2, .rcv 0 0 3, .rcv 1 0 3]
    ++ (hopDues 1 ++ hopDues 2)
def O₀ (c : Dev nD) : CellTallies nD τ sig Unit := oblig c dues

def L (g : GSem nD τ sig) : Finset Unit := if g.1.2 = .tc then {()} else ∅
def lv (g : GSem nD τ sig) (_ : Unit) : ℕ := match dec g.2 with | some x => ixLv x | none => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (d : Dev nD) (x : CIx) : lv (cell d x) () = ixLv x := by unfold lv; rw [dec_enc]

theorem oblig_pos {c : Dev nD} {l : List Due} {g : GSem nD τ sig} {u : Unit} (h : 0 < oblig c l g u) : ∃ x ∈ l, g = dueCell c x := by
  induction l with
  | nil => exact absurd h (Nat.lt_irrefl 0)
  | cons x l ih =>
    unfold oblig at h
    rw [Pi.add_apply, Finsupp.add_apply, tallyAt_apply] at h
    by_cases hg : g = dueCell c x ∧ u = ()
    · exact ⟨x, List.mem_cons_self, hg.1⟩
    · rw [if_neg hg] at h
      obtain ⟨y, hy, e⟩ := ih (by omega)
      exact ⟨y, List.mem_cons_of_mem _ hy, e⟩

theorem mayWait (c : Dev nD) (sm : SemLoc sig) (b : ℕ) (l : List Due) (hs : lv ((c : Thread nD τ), sm) () ≤ b) (hl : ∀ x ∈ l, b < ixLv (dueIx x)) :
    (levAts L lv : sProp 𝕄) ⊢ MayWait (c : Thread nD τ) sm () (oblig c l) :=
  MayOwe.of_cut (L := L) (lev := lv) b (fun p hp => by rw [Finset.mem_singleton.mp hp, L_tc]; exact Finset.mem_singleton_self _)
    (fun g u hg => by obtain ⟨x, -, rfl⟩ := oblig_pos hg; rw [L_tc]; exact Finset.mem_singleton_self _)
    (fun p hp => by rw [Finset.mem_singleton.mp hp]; exact hs)
    (fun g u hg => by obtain ⟨x, hx, rfl⟩ := oblig_pos hg; rw [lv_cell]; exact hl x hx)

theorem lv_none (c : Dev nD) (sm : SemLoc sig) (h : dec sm = none) : lv ((c : Thread nD τ), sm) () ≤ 0 := by unfold lv; rw [h]

end Cert.KernelIdeal.Run

end
-- ==== Proof.KernelIdeal.Ops.lean ====
/-
One memory operation at a time: what each of the program's words takes and gives, over memrefs owned at
values (`ownsTc`) and the cells of `Sched`.
-/
module

public import proofs.«01_k».proof.Proof.KernelIdeal.Sched
public import Idealize.ShloMosaic.Lib.Pipeline.Value

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition on device `c`. -/
abbrev W (c : Dev nD) {α : Type} (p : TP F α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × CIx → ℕ)

/-- What every device knows throughout: each cell's invariant, that its round is open, and the levels. -/
def ctx : sProp 𝕄 :=
  iprop((bigSep Finset.univ fun p : Dev nD × CIx => cellInv ER (sched m) (K p) (cell p.1 p.2))
    ∗ (bigSep Finset.univ fun p : Dev nD × CIx => reached ER (cell p.1 p.2) 0) ∗ levAts L lv)
instance ctx_persistent : BI.Persistent (ctx m K) := by unfold ctx; infer_instance
theorem ctx_inv (d : Dev nD) (x : CIx) : ctx m K ⊢ cellInv ER (sched m) (K (d, x)) (cell d x) := by
  unfold ctx; iintro ⟨H, -, -⟩
  iapply (show (bigSep Finset.univ fun p : Dev nD × CIx => cellInv ER (sched m) (K p) (cell p.1 p.2)) ⊢ cellInv ER (sched m) (K (d, x)) (cell d x) from
    bigSep_elim (Finset.mem_univ (d, x)))
  iexact H
theorem ctx_reached (d : Dev nD) (x : CIx) : ctx m K ⊢ reached ER (cell d x) 0 := by
  unfold ctx; iintro ⟨-, H, -⟩
  iapply (show (bigSep Finset.univ fun p : Dev nD × CIx => (reached ER (cell p.1 p.2) 0 : sProp 𝕄)) ⊢ reached ER (cell d x) 0 from
    bigSep_elim (Finset.mem_univ (d, x)))
  iexact H
theorem ctx_lev : ctx m K ⊢ levAts L lv := by
  unfold ctx; iintro ⟨-, -, H⟩; iexact H

/-- What a device still owes, whatever it has waited on. -/
def owesE (c : Dev nD) (l : List Due) : sProp 𝕄 := iprop(∃ Ws, owes (c : Thread nD τ) (oblig c l) Ws)

section Ops
variable (c : Dev nD) {α : Type} {Ψ : α → sProp (MT nD τ sig Unit (Elt F) ℕ UU ℕ)}

/-! ## The rings' cells -/

/-- A wait on an own cell: its duties' payloads, and the cell closed. -/
theorem wait_ix (x : CIx) (l : List Due) {w : TpuEff nD τ sig (Elt F) Λ₀ .tc PUnit} {k' : ℕ} {k : PUnit → TP F α}
    (hw : ∀ K' : PUnit → sProp 𝕄, wpE (defs₀ (F := F)) 𝒱₀ (c : Thread nD τ) none Set.univ w K' = waitSpec (c : Thread nD τ) Set.univ (enc x) k' K')
    (hk : k' = (dut x).card * amt x) (hl : ∀ y ∈ l, ixLv x < ixLv (dueIx y)) :
    iprop(ctx m K ∗ cred (tallyAt (cell c x) () k') ∗ owesE c l ∗ atPos ER (cell c x) 0 ∅ 0)
      ⊢ iprop(((owesE c l ∗ semVal (cell c x) 0 ∗ bigSep (dut x) (pay m c x)) -∗ W c (k ⟨⟩) Ψ) -∗ W c (.op w k) Ψ) := by
  unfold owesE
  iintro ⟨#Hc, Hcr, ⟨%Ws, HO⟩, Hat⟩ Hk
  iapply (Rounds.wp_wait_rest_token 𝒱₀ ER (sched m) (c : Thread nD τ) none (κ := K (c, x)) (sm := enc x)
      hw (Set.mem_univ _) () (O := oblig c l) (W := Ws) (R := 0) (m := 0) (T := ∅)
      (by rw [Nat.zero_add, expect_eq, hk])) $$ [Hcr HO Hat]
  · isplitr; · iapply (ctx_inv m K c x); iexact Hc
    isplitl [Hcr]; · iexact Hcr
    isplitl [HO]; · iexact HO
    isplitr; · iapply (mayWait c (enc x) (ixLv x) l (le_of_eq (lv_cell c x)) hl); iapply (ctx_lev m K); iexact Hc
    iexact Hat
  iintro ⟨HO, Hat, -, Hpay⟩
  imod (Rounds.cell_close ER (sched m) (Set.mem_univ (K (c, x))) (fun h => h) (R := 0 + 1) (duties_later m (cell c x))) $$ [Hat] with Hz
  · isplitr; · iapply (ctx_inv m K c x); iexact Hc
    iexact Hat
  iapply Hk
  isplitl [HO]; · iexists _; iexact HO
  isplitl [Hz]; · iexact Hz
  have hpay : bigSep ((sched m).duties ((c : Thread nD τ), enc x) 0 \ ∅) (fun d => (sched m).payload ((c : Thread nD τ), enc x) 0 d) ⊢ bigSep (dut x) (pay m c x) := by
    rw [Finset.sdiff_empty, show ((c : Thread nD τ), enc x) = cell c x from rfl, duties_eq, bigSep_congr fun u _ => payload_eq m c x 0 u]
  iapply hpay; iexact Hpay

/-- A cell nobody signals closes as it stands. -/
theorem close_idle (x : CIx) (hx : dut x = ∅) : iprop(ctx m K ∗ atPos ER (cell c x) 0 ∅ 0) ⊢ iprop(|={Set.univ}=> semVal (cell c x) 0) := by
  iintro ⟨#Hc, Hat⟩
  iapply (Rounds.cell_close ER (sched m) (Set.mem_univ (K (c, x))) (fun h => h) (R := 0) (fun r _ => by
    rcases Nat.eq_zero_or_pos r with rfl | hr
    · rw [duties_eq, hx]
    · exact duties_later m _ r hr))
  isplitr; · iapply (ctx_inv m K c x); iexact Hc
  iexact Hat

/-- A signal of the barrier: ring `r`'s landing slot to the device upstream. -/
theorem signal_bar (r : Fin 2) (l : List Due) (n : Dev nD) (hn : n = up r c) {k : PUnit → TP F α} :
    iprop(ctx m K ∗ owesE c (.bar r :: l) ∗ dutyTok ER (cell (up r c) none) 0 r ∗ pay m (up r c) none r)
      ⊢ iprop((owesE c l -∗ W c (k ⟨⟩) Ψ) -∗ W c (.op (.semSignal (n : Thread nD τ) barS 1) k) Ψ) := by
  subst hn
  unfold owesE
  iintro ⟨#Hc, ⟨%Ws, HO⟩, Ht, Hp⟩ Hk
  iapply (Rounds.wp_signal 𝒱₀ ER (sched m) (c : Thread nD τ) none (dst := (up r c : Thread nD τ)) (sem := barS) (κ := K (up r c, none)) (r := 0)
      (d := r) (by rw [show ((up r c : Thread nD τ), SemLoc.reg barS) = cell (up r c) none from rfl, duties_eq]; exact Finset.mem_univ _)
      (amount_eq m (up r c) none 0 r) () (O₀ := oblig c (.bar r :: l)) (oblig c l) rfl) $$ [HO Ht Hp]
  · isplitr; · iapply (ctx_inv m K (up r c) none); iexact Hc
    isplitl [HO]; · iexact HO
    isplitl [Ht]; · iexact Ht
    isplitl [Hp]; · rw [show ((up r c : Thread nD τ), SemLoc.reg barS) = cell (up r c) none from rfl, payload_eq]; iexact Hp
    iapply (ctx_reached m K (up r c) none); iexact Hc
  iintro HO; iapply Hk; iexists _; iexact HO

/-- A credit to the device upstream: this device's tile may be written again. -/
theorem signal_crd (r : Fin 2) (h : Fin 3) (j : Fin 4) (hh : h ≠ 0) (l : List Due) (n : Dev nD) (hn : n = up r c) {k : PUnit → TP F α} :
    iprop(ctx m K ∗ owesE c (.crd r h j :: l) ∗ dutyTok ER (cell (up r c) (some (2, r, h, j))) 0 0 ∗ tileEx c r (dst h) j)
      ⊢ iprop((owesE c l -∗ W c (k ⟨⟩) Ψ) -∗ W c (.op (.semSignal (n : Thread nD τ) (crdS r h j) 1) k) Ψ) := by
  subst hn
  unfold owesE
  iintro ⟨#Hc, ⟨%Ws, HO⟩, Ht, Hp⟩ Hk
  iapply (Rounds.wp_signal 𝒱₀ ER (sched m) (c : Thread nD τ) none (dst := (up r c : Thread nD τ)) (sem := crdS r h j) (κ := K (up r c, some (2, r, h, j))) (r := 0)
      (d := 0) (by
        rw [show ((up r c : Thread nD τ), SemLoc.reg (crdS r h j)) = cell (up r c) (some (2, r, h, j)) from rfl, duties_eq]
        revert hh; revert r h j; decide)
      (amount_eq m (up r c) (some (2, r, h, j)) 0 0) () (O₀ := oblig c (.crd r h j :: l)) (oblig c l) rfl) $$ [HO Ht Hp]
  · isplitr; · iapply (ctx_inv m K (up r c) (some (2, r, h, j))); iexact Hc
    isplitl [HO]; · iexact HO
    isplitl [Ht]; · iexact Ht
    isplitl [Hp]
    · rw [show ((up r c : Thread nD τ), SemLoc.reg (crdS r h j)) = cell (up r c) (some (2, r, h, j)) from rfl, payload_eq]
      iapply (show tileEx c r (dst h) j ⊢ pay m (up r c) (some (2, r, h, j)) 0 from by unfold pay; simp only [dn_up]; iintro H; iexact H)
      iexact Hp
    iapply (ctx_reached m K (up r c) (some (2, r, h, j))); iexact Hc
  iintro HO; iapply Hk; iexists _; iexact HO

/-- A hop: the running sum to the device downstream. -/
theorem send_ix (r : Fin 2) (h : Fin 3) (j : Fin 4) (l : List Due) (n : Dev nD) (hn : n = dn r c)
    {hsc : (tileM r (dst h) j : Memref sig (Dev.tc n : Thread nD τ).2.kind .vmem S1024x1024 .bf16).view.ref.isScScratch = false}
    {hsrc : (tileM r (src h) j).view.WordExact} {hdst : (tileM r (dst h) j).view.WordExact}
    {hsem : DmaTarget.Typed .vmem (.dma (rcvS r h j)) (.remote (Dev.tc n : Thread nD τ) (tileM r (dst h) j) (.dma (sndS r h j)) hsc)}
    {k : PUnit → TP F α} :
    iprop(ctx m K ∗ ownsTc c (tileM r (src h) j) fullShare (sv m r j h.val c) ∗ tileEx (dn r c) r (dst h) j ∗ owesE c (.rcv r h j :: l)
        ∗ dutyTok ER (cell c (some (0, r, h, j))) 0 0 ∗ dutyTok ER (cell (dn r c) (some (1, r, h, j))) 0 0)
      ⊢ iprop(((cred (tallyAt (cell c (some (0, r, h, j))) () N) ∗ owesE c l) -∗ W c (k ⟨⟩) Ψ)
          -∗ W c (.op (.enqueueDma (tileM r (src h) j) (.remote (Dev.tc n : Thread nD τ) (tileM r (dst h) j) (.dma (sndS r h j)) hsc) (.dma (rcvS r h j)) hsrc hdst hsem) k) Ψ) := by
  subst hn
  unfold owesE
  iintro ⟨#Hc, Hs, ⟨%Y, Hd⟩, ⟨%Ws, HO⟩, Ht1, Ht2⟩ Hk
  unfold ownsTc owns
  icases Hs with ⟨%fs, %hfs, Hs⟩
  icases Hd with ⟨%fd, %hfd, Hd⟩
  iapply (Rounds.wp_send_pointsTo 𝒱₀ ER (sched m) (c : Thread nD τ) none (κ₁ := K (c, some (0, r, h, j))) (κ₂ := K (dn r c, some (1, r, h, j)))
    (r₁ := 0) (r₂ := 0) (d₁ := 0) (d₂ := 0) (fs := fs) (fd := fd) (q := fullShare)
    (by rw [duties_eq]; exact Finset.mem_singleton_self _)
    (by rw [duties_eq]; exact Finset.mem_singleton_self _)
    () () N (show (tileM r (dst h) j).view.amount (.dma (rcvS r h j)) = N from tile_credit r (dst h) j) (amount_eq m c (some (0, r, h, j)) 0 0) (amount_eq m (dn r c) (some (1, r, h, j)) 0 0)
    (O₀ := oblig c (.rcv r h j :: l)) (oblig c l) rfl (W := Ws)
    (by
      rw [payload_eq]
      unfold pay; iintro H; iexists _; iapply (owns_intro (c : Thread nD τ) (tileM r (src h) j) fullShare fs); iexact H)
    (by
      rw [payload_eq]
      unfold pay; simp only [up_dn]; rw [← hfs]
      have := owns_intro (Ix := Unit) (Name := ℕ) (U := UU) (Lvl := ℕ) (dn r c : Thread nD τ) (tileM r (dst h) j) fullShare
        ((tileM r (dst h) j).view.write (Elt F) fd ((tileM r (src h) j).view.read (Elt F) fs) Finset.univ)
      rw [View.read_write_univ] at this
      exact this)) $$ [Hs Hd HO Ht1 Ht2]
  · isplitr; · iapply (ctx_inv m K c (some (0, r, h, j))); iexact Hc
    isplitr; · iapply (ctx_inv m K (dn r c) (some (1, r, h, j))); iexact Hc
    isplitl [Hs]; · iexact Hs
    isplitl [Hd]; · iexact Hd
    isplitl [HO]; · iexact HO
    isplitl [Ht1]; · iexact Ht1
    isplitr; · iapply (ctx_reached m K c (some (0, r, h, j))); iexact Hc
    isplitl [Ht2]; · iexact Ht2
    iapply (ctx_reached m K (dn r c) (some (1, r, h, j))); iexact Hc
  iintro ⟨Hcr, HO⟩
  iapply Hk
  isplitl [Hcr]; · iexact Hcr
  iexists _; iexact HO

/-! ## Local copies -/

/-- A copy within the device, on the DMA cell `s`; `N'` its credit. -/
theorem copy_start {sp sp' : Space} {sh : Shape} {e : EltTy} (src : Memref sig .tc sp sh e) (dst : Memref sig (c : Thread nD τ).2.kind sp' sh e) (s : DmaSem sig)
    {hsrc : src.view.WordExact} {hdst : dst.view.WordExact} {hsem : DmaTarget.Typed (nD := nD) sp (.dma s) (.here dst)} (hn : 0 < sh.numel)
    {q : PosShare TreeShare} (X : sh.Idx → Elt F e) {k : PUnit → TP F α} :
    iprop(ownsTc c src q X ∗ (∃ Y, ownsTc c dst fullShare Y) ∗ semVal ((c : Thread nD τ), SemLoc.dma s) 0)
      ⊢ iprop((Transfers.Flight EC (c : Thread nD τ) (.dma s) () dst.view.dmaCredit iprop(ownsTc c dst fullShare X ∗ ownsTc c src q X) -∗ W c (k ⟨⟩) Ψ)
          -∗ W c (.op (.enqueueDma src (.here dst) (.dma s) hsrc hdst hsem) k) Ψ) := by
  iintro ⟨Hs, ⟨%Y, Hd⟩, Hz⟩ Hk
  unfold ownsTc owns
  icases Hs with ⟨%fs, %hfs, Hs⟩
  icases Hd with ⟨%fd, %hfd, Hd⟩
  iapply (Transfers.wp_dmaLocal EC 𝒱₀ (c : Thread nD τ) none (src := src) (dst := dst) (via := .same) (sm := .dma s) (fs := fs) (fd := fd) (q := q) (Sd := dst.view.set)
    () dst.view.dmaCredit rfl (View.dmaCredit_pos _ hn) (Finset.Subset.refl _)) $$ [Hs Hd Hz]
  · isplitl [Hs]; · iexact Hs
    isplitl [Hd] <;> iassumption
  iintro Hf
  iapply Hk
  iapply (Transfers.Flight_mono EC (c : Thread nD τ) (D := iprop((dst.view.loc (c : Thread nD τ) ↦[dst.view.set]{fullShare} (dst.view.write (Elt F) fd (src.view.read (Elt F) fs) Finset.univ))
                                    ∗ (src.view.loc (c : Thread nD τ) ↦[src.view.set]{q} fs))) (by
    iintro ⟨Hd, Hs⟩
    isplitl [Hd]
    · iexists _; isplitr
      swap
      · iexact Hd
      · ipureintro; rw [View.read_write_univ]; exact hfs
    · iexists _; isplitr
      swap
      · iexact Hs
      · ipureintro; exact hfs))
  iexact Hf

theorem due_pos (y : Due) : 0 < ixLv (dueIx y) := by cases y <;> simp [dueIx, ixLv]

/-- and its wait. -/
theorem copy_wait {sp sp' : Space} {sh sh' : Shape} {e e' : EltTy} (src : Memref sig .tc sp sh e) (dst : Memref sig .tc sp' sh' e') (s : DmaSem sig)
    {hsrc : src.view.WordExact} {hdst : dst.view.WordExact} (hs : dec (.dma s) = none) (l : List Due) {D : sProp 𝕄} {k : PUnit → TP F α} :
    iprop(ctx m K ∗ Transfers.Flight EC (c : Thread nD τ) (.dma s) () dst.view.dmaCredit D ∗ owesE c l)
      ⊢ iprop(((D ∗ semVal ((c : Thread nD τ), SemLoc.dma s) 0 ∗ owesE c l) -∗ W c (k ⟨⟩) Ψ)
          -∗ W c (.op (.waitDma2 s src dst hsrc hdst) k) Ψ) := by
  unfold owesE
  iintro ⟨#Hc, Hf, ⟨%Ws, HO⟩⟩ Hk
  iapply (Transfers.wp_waitLocalO EC 𝒱₀ (c : Thread nD τ) none (dstw := dst) (srcw := src) () rfl) $$ [Hf HO]
  · isplitl [Hf]; · iexact Hf
    isplitl [HO]; · iexact HO
    iapply (mayWait c (.dma s) 0 l (lv_none c _ hs) (fun y _ => due_pos y)); iapply (ctx_lev m K); iexact Hc
  iintro ⟨HD, Hz, HO⟩
  iapply Hk
  isplitl [HD]; · iexact HD
  isplitl [Hz]; · iexact Hz
  iexists _; iexact HO

/-! ## Loads and stores -/

variable {sh s' : Shape} {e : EltTy} (M : Memref sig .tc .vmem sh e) (r : Rect sh) (hr : ∀ a, r.stride a = 1)

/-- A load of a slice. -/
theorem load_slice {q : PosShare TreeShare} (X : r.shape.Idx → Elt F e) {hl : M.view.LoadsAt r.toLoadRect} {k : (r.shape.Idx → Elt F e) → TP F α} :
    (ownsTc c (M.slice r hr) q X) ⊢ iprop((ownsTc c (M.slice r hr) q X -∗ W c (k X) Ψ) -∗ W c (.op (.load (cs := .vmem) M r.toLoadRect hl) k) Ψ) := by
  unfold ownsTc owns
  iintro ⟨%f, %hf, H⟩ Hk
  iapply (wp_load_rect 𝒱₀ (c : Thread nD τ) none Set.univ (m := M) (r := r) (S := (M.access r).set) (f := f) (q := q) (Finset.Subset.refl _)) $$ [H]
  · iexact H
  iintro H
  rw [show (M.access r).read (Elt F) f = X from hf]
  iapply Hk
  iexists f; isplitr; · ipureintro; exact hf
  iexact H

/-- A store over a slice. -/
theorem store_slice (X Y : r.shape.Idx → Elt F e) {hx : (M.access r).Stores Finset.univ} {hm : Finset.univ = Finset.univ ∨ ∀ a, r.stride a = 1} {k : PUnit → TP F α} :
    (ownsTc c (M.slice r hr) fullShare X)
      ⊢ iprop((ownsTc c (M.slice r hr) fullShare Y -∗ W c (k ⟨⟩) Ψ) -∗ W c (.op (.store (cs := .vmem) M r Y Finset.univ hx hm) k) Ψ) := by
  unfold ownsTc owns
  iintro ⟨%f, %hf, H⟩ Hk
  iapply (wp_store 𝒱₀ (c : Thread nD τ) none Set.univ (m := M) (r := r) (Mk := Finset.univ) (S := (M.access r).set) (f := f) (Finset.Subset.refl _)) $$ [H]
  · iexact H
  iintro H
  iapply Hk
  iexists _; isplitr
  swap
  · iexact H
  · ipureintro; exact View.read_write_univ (v := M.view.slice r) f Y

variable (hq : r.shape.Squeezes s') (hc : r.shape.ShapeCasts s') (hc' : s'.ShapeCasts r.shape)

include hc in
/-- A load of a slice owned with its unit axis dropped. -/
theorem load_squeeze {q : PosShare TreeShare} (X : s'.Idx → Elt F e) {hl : M.view.LoadsAt r.toLoadRect} {k : (r.shape.Idx → Elt F e) → TP F α} :
    (ownsTc c ((M.slice r hr).squeeze s' hq) q X)
      ⊢ iprop((ownsTc c ((M.slice r hr).squeeze s' hq) q X -∗ W c (k (shapeCast r.shape X hc')) Ψ) -∗ W c (.op (.load (cs := .vmem) M r.toLoadRect hl) k) Ψ) := by
  unfold ownsTc owns
  iintro ⟨%f, %hf, H⟩ Hk
  have hset : ((M.slice r hr).squeeze s' hq).view.set = (M.access r).set := View.set_reshape _ _
  rw [hset]
  iapply (wp_load_rect 𝒱₀ (c : Thread nD τ) none Set.univ (m := M) (r := r) (S := (M.access r).set) (f := f) (q := q) (Finset.Subset.refl _)) $$ [H]
  · iexact H
  iintro H
  rw [show (M.access r).read (Elt F) f = shapeCast r.shape X hc' from by
    rw [← hf, Memref.read_squeeze_slice M r hr hq hc f, shapeCast_shapeCast]; rfl]
  iapply Hk
  iexists f; isplitr; · ipureintro; exact hf
  iexact H

/-- A store over one. -/
theorem store_squeeze (X : s'.Idx → Elt F e) (Y : r.shape.Idx → Elt F e) {hx : (M.access r).Stores Finset.univ} {hm : Finset.univ = Finset.univ ∨ ∀ a, r.stride a = 1} {k : PUnit → TP F α} :
    (ownsTc c ((M.slice r hr).squeeze s' hq) fullShare X)
      ⊢ iprop((ownsTc c ((M.slice r hr).squeeze s' hq) fullShare (shapeCast s' Y hc) -∗ W c (k ⟨⟩) Ψ)
          -∗ W c (.op (.store (cs := .vmem) M r Y Finset.univ hx hm) k) Ψ) := by
  unfold ownsTc owns
  iintro ⟨%f, %hf, H⟩ Hk
  have hset : ((M.slice r hr).squeeze s' hq).view.set = (M.access r).set := View.set_reshape _ _
  rw [hset]
  iapply (wp_store 𝒱₀ (c : Thread nD τ) none Set.univ (m := M) (r := r) (Mk := Finset.univ) (S := (M.access r).set) (f := f) (Finset.Subset.refl _)) $$ [H]
  · iexact H
  iintro H
  iapply Hk
  iexists _; isplitr
  swap
  · iexact H
  · ipureintro
    rw [Memref.read_squeeze_slice M r hr hq hc]
    exact congrArg (fun z => shapeCast s' z hc) (View.read_write_univ (v := M.view.slice r) f Y)

end Ops

end Cert.KernelIdeal.Run

end
-- ==== Proof.KernelIdeal.Steps.lean ====
/-
The tile steps: what a step of each of the four phases takes and gives, in terms of the two weight slots
(idle, or a tile in flight), the row chunks in the narrow format, and one tile's state from phase to phase.
-/
module

public import proofs.«01_k».proof.Proof.KernelIdeal.Ops

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-! ## States -/

def wRing (c : Dev nD) (r : Fin 2) : sProp 𝕄 := bigSep Finset.univ fun j : Fin 4 => ownsTc c (wT r j) fullShare (wpart m c r j)
/-- Ring `r`'s weight slot at rest, -/
def wIdle (c : Dev nD) (r : Fin 2) : sProp 𝕄 :=
  iprop(wRing m c r ∗ (∃ X, ownsTc c (wsT r) fullShare X) ∗ semVal ((c : Thread nD τ), SemLoc.dma (wS r)) 0)
/-- with tile `j` on its way, -/
def wFly (c : Dev nD) (r : Fin 2) (j : Fin 4) : sProp 𝕄 :=
  iprop(Transfers.Flight EC (c : Thread nD τ) (.dma (wS r)) () (wsT r).view.dmaCredit iprop(ownsTc c (wsT r) fullShare (wpart m c r j) ∗ ownsTc c (wT r j) fullShare (wpart m c r j))
    ∗ (ownsTc c (wT r j) fullShare (wpart m c r j) -∗ wRing m c r))
/-- and holding it. -/
def wHold (c : Dev nD) (r : Fin 2) (j : Fin 4) : sProp 𝕄 :=
  iprop(wRing m c r ∗ ownsTc c (wsT r) fullShare (wpart m c r j) ∗ semVal ((c : Thread nD τ), SemLoc.dma (wS r)) 0)

def xRing (c : Dev nD) : sProp 𝕄 := bigSep Finset.univ fun i : Fin 4 => ownsTc c (xT c i) fullShare (xpart m c i)
def xIdle (c : Dev nD) : sProp 𝕄 :=
  iprop(xRing m c ∗ (∃ X, ownsTc c xsM fullShare X) ∗ semVal ((c : Thread nD τ), SemLoc.dma xS) 0)
def xFly (c : Dev nD) (i : Fin 4) : sProp 𝕄 :=
  iprop(Transfers.Flight EC (c : Thread nD τ) (.dma xS) () xsM.view.dmaCredit iprop(ownsTc c xsM fullShare (xpart m c i) ∗ ownsTc c (xT c i) fullShare (xpart m c i))
    ∗ (ownsTc c (xT c i) fullShare (xpart m c i) -∗ xRing m c))
/-- Row chunk `i` of the operand in the narrow format, -/
def xb (c : Dev nD) (i : Fin 4) : sProp 𝕄 := ownsTc c (xbM.slice (xbR c i) (fun _ => rfl)) fullShare (halfV (xpart m c i))
/-- and its place before. -/
def xbEx (c : Dev nD) (i : Fin 4) : sProp 𝕄 := iprop(∃ X, ownsTc c (xbM.slice (xbR c i) (fun _ => rfl)) fullShare X)

/-- What hop `h` of a tile is waited with, -/
def hopW (c : Dev nD) (r : Fin 2) (h : Fin 3) (j : Fin 4) : sProp 𝕄 :=
  iprop(atPos ER (cell c (some (1, r, h, j))) 0 ∅ 0 ∗ cred (tallyAt (cell c (some (1, r, h, j))) () N) ∗ atPos ER (cell c (some (0, r, h, j))) 0 ∅ 0)
/-- sent with, -/
def hopS (c : Dev nD) (r : Fin 2) (h : Fin 3) (j : Fin 4) : sProp 𝕄 :=
  iprop(dutyTok ER (cell c (some (0, r, h, j))) 0 0 ∗ dutyTok ER (cell (dn r c) (some (1, r, h, j))) 0 0)
/-- and its credit given and taken with. -/
def hopC (c : Dev nD) (r : Fin 2) (h : Fin 3) (j : Fin 4) : sProp 𝕄 :=
  iprop(dutyTok ER (cell (up r c) (some (2, r, h, j))) 0 0 ∗ atPos ER (cell c (some (2, r, h, j))) 0 ∅ 0 ∗ cred (tallyAt (cell c (some (2, r, h, j))) () 1))
def mid (c : Dev nD) (r : Fin 2) (h h' : Fin 3) (j : Fin 4) : sProp 𝕄 := iprop(hopW c r h j ∗ hopC c r h' j ∗ hopS c r h' j)
def out0 (c : Dev nD) (r : Fin 2) (j : Fin 4) : sProp 𝕄 :=
  iprop((∃ X, ownsTc c (oT r j) fullShare X) ∗ semVal ((c : Thread nD τ), SemLoc.dma (outS r j)) 0)
/-- A hop's three cells, closed. -/
def zer (c : Dev nD) (r : Fin 2) (h : Fin 3) (j : Fin 4) : sProp 𝕄 :=
  iprop(semVal (cell c (some (0, r, h, j))) 0 ∗ semVal (cell c (some (1, r, h, j))) 0)
def zerC (c : Dev nD) (r : Fin 2) (h : Fin 3) (j : Fin 4) : sProp 𝕄 := semVal (cell c (some (2, r, h, j))) 0
/-- The send of hop `h` under way. -/
def sent (c : Dev nD) (r : Fin 2) (h : Fin 3) (j : Fin 4) : sProp 𝕄 := cred (tallyAt (cell c (some (0, r, h, j))) () N)

/-- A tile's state before each phase, before its copy out is awaited, and after. -/
def T0 (c : Dev nD) (r : Fin 2) (j : Fin 4) : sProp 𝕄 :=
  iprop(tileEx c r 0 j ∗ hopS c r 0 j ∗ mid c r 0 1 j ∗ mid c r 1 2 j ∗ hopW c r 2 j ∗ out0 c r j)
def T1 (c : Dev nD) (r : Fin 2) (j : Fin 4) : sProp 𝕄 := iprop(sent c r 0 j ∗ mid c r 0 1 j ∗ mid c r 1 2 j ∗ hopW c r 2 j ∗ out0 c r j)
def T2 (c : Dev nD) (r : Fin 2) (j : Fin 4) : sProp 𝕄 := iprop(sent c r 1 j ∗ mid c r 1 2 j ∗ hopW c r 2 j ∗ out0 c r j ∗ zer c r 0 j ∗ zerC c r 1 j)
def T3 (c : Dev nD) (r : Fin 2) (j : Fin 4) : sProp 𝕄 :=
  iprop(sent c r 2 j ∗ hopW c r 2 j ∗ out0 c r j ∗ zer c r 0 j ∗ zerC c r 1 j ∗ zer c r 1 j ∗ zerC c r 2 j)
def T4 (c : Dev nD) (r : Fin 2) (j : Fin 4) : sProp 𝕄 :=
  iprop(Transfers.Flight EC (c : Thread nD τ) (.dma (outS r j)) () (oT r j).view.dmaCredit iprop(ownsTc c (oT r j) fullShare (fin m c r j) ∗ ownsTc c (tileM r 0 j) fullShare (fin m c r j))
    ∗ tileEx c r 1 j ∗ zer c r 0 j ∗ zerC c r 1 j ∗ zer c r 1 j ∗ zerC c r 2 j ∗ zer c r 2 j)
def T5 (c : Dev nD) (r : Fin 2) (j : Fin 4) : sProp 𝕄 :=
  iprop(ownsTc c (oT r j) fullShare (fin m c r j) ∗ semVal ((c : Thread nD τ), SemLoc.dma (outS r j)) 0 ∗ tileEx c r 0 j
    ∗ tileEx c r 1 j ∗ zer c r 0 j ∗ zerC c r 1 j ∗ zer c r 1 j ∗ zerC c r 2 j ∗ zer c r 2 j)

/-! ## The values -/

theorem dotV_prod (c : Dev nD) (r : Fin 2) (j i : Fin 4) (h : S1024x1024.ShapeCasts S1x1024x1024) :
    dotV (halfV (xpart m c i)) (shapeCast S1x1024x1024 (wpart m c r j) h) = prod m c r j i := by
  unfold dotV prod; rw [shapeCast_shapeCast]
theorem packV_cast (y : FVec F S1024x1024 .f32) (h : S1x1024x1024.ShapeCasts S1024x1024) :
    shapeCast S1024x1024 (packV y) h = truncf .bf16 y bitsLt_bf16_f32 := by
  unfold packV; rw [shapeCast_shapeCast]
theorem sumV_cast (v : FVec F S1024x1024 .bf16) (y : FVec F S1024x1024 .f32) (h : S1024x1024.ShapeCasts S1x1024x1024) :
    sumV (shapeCast S1x1024x1024 v h) y = addf (extf .f32 v bitsLt_bf16_f32) y := by
  unfold sumV; rw [shapeCast_shapeCast]

section Steps
variable (c : Dev nD) {α : Type} {Ψ : α → sProp (MT nD τ sig Unit (Elt F) ℕ UU ℕ)} {k : PUnit → TP F α}

/-! ## The copies in -/

theorem take_one {ι : Type} [Fintype ι] [DecidableEq ι] (Φ : ι → sProp 𝕄) (j : ι) :
    bigSep Finset.univ Φ ⊢ iprop(Φ j ∗ (Φ j -∗ bigSep Finset.univ Φ)) := by
  have e : bigSep Finset.univ Φ = iprop(Φ j ∗ bigSep (Finset.univ.erase j) Φ) := bigSep_univ_split j
  rw [e]
  iintro ⟨H, Hr⟩
  isplitl [H]; · iexact H
  iintro H; isplitl [H] <;> iassumption
theorem wRing_take (r : Fin 2) (j : Fin 4) :
    wRing m c r ⊢ iprop(ownsTc c (wT r j) fullShare (wpart m c r j) ∗ (ownsTc c (wT r j) fullShare (wpart m c r j) -∗ wRing m c r)) :=
  take_one (fun j : Fin 4 => ownsTc c (wT r j) fullShare (wpart m c r j)) j
theorem xRing_take (i : Fin 4) :
    xRing m c ⊢ iprop(ownsTc c (xT c i) fullShare (xpart m c i) ∗ (ownsTc c (xT c i) fullShare (xpart m c i) -∗ xRing m c)) :=
  take_one (fun i : Fin 4 => ownsTc c (xT c i) fullShare (xpart m c i)) i

theorem wStart_spec (r : Fin 2) (j : Fin 4) :
    wIdle m c r ⊢ iprop((wFly m c r j -∗ W c (k ⟨⟩) Ψ) -∗ W c (wStart r j >>= k) Ψ) := by
  simp only [wStart, Prog.lift, Prog.bind_op, Prog.bind_ret]
  unfold wIdle wFly
  iintro ⟨HR, HX, Hz⟩ Hk
  ihave HR := (wRing_take m c r j) $$ HR
  icases HR with ⟨Hw, HR⟩
  iapply (copy_start c (wT r j) (wsT r) (wS r) (by decide) (q := fullShare) (wpart m c r j)) $$ [Hw HX Hz]
  · isplitl [Hw]; · iexact Hw
    isplitl [HX] <;> iassumption
  iintro Hf
  iapply Hk
  isplitl [Hf] <;> iassumption

theorem wWait_spec (r : Fin 2) (j : Fin 4) (l : List Due) :
    iprop(ctx m K ∗ wFly m c r j ∗ owesE c l) ⊢ iprop((wHold m c r j ∗ owesE c l -∗ W c (k ⟨⟩) Ψ) -∗ W c (wWait r j >>= k) Ψ) := by
  simp only [wWait, Prog.lift, Prog.bind_op, Prog.bind_ret]
  unfold wHold wFly
  iintro ⟨#Hc, ⟨Hf, HR⟩, HO⟩ Hk
  iapply (copy_wait m K c (wT r j) (wsT r) (wS r) (dec_wS r) l) $$ [Hf HO]
  · isplitr; · iexact Hc
    isplitl [Hf] <;> iassumption
  iintro ⟨⟨Hs, Hw⟩, Hz, HO⟩
  iapply Hk
  isplitr [HO]
  · isplitl [HR Hw]; · iapply HR; iexact Hw
    isplitl [Hs] <;> iassumption
  iexact HO

theorem xStart_spec (i : Fin 4) :
    xIdle m c ⊢ iprop((xFly m c i -∗ W c (k ⟨⟩) Ψ) -∗ W c (xStart c i >>= k) Ψ) := by
  simp only [xStart, Prog.lift, Prog.bind_op, Prog.bind_ret]
  unfold xIdle xFly
  iintro ⟨HR, HX, Hz⟩ Hk
  ihave HR := (xRing_take m c i) $$ HR
  icases HR with ⟨Hw, HR⟩
  iapply (copy_start c (xT c i) xsM xS (by decide) (q := fullShare) (xpart m c i)) $$ [Hw HX Hz]
  · isplitl [Hw]; · iexact Hw
    isplitl [HX] <;> iassumption
  iintro Hf
  iapply Hk
  isplitl [Hf] <;> iassumption

theorem load_xs (X : Vec F S1024x1024 .f32) {hl : xsM.view.LoadsAt (Rect.unit (s := S1024x1024) ![0, 0] S1024x1024.size inb_S1024x1024_S1024x1024_0_0).toLoadRect}
    {k : (S1024x1024.Idx → Elt F .f32) → TP F α} :
    (ownsTc c xsM fullShare X)
      ⊢ iprop((ownsTc c xsM fullShare X -∗ W c (k X) Ψ)
        -∗ W c (.op (.load (cs := .vmem) xsM (Rect.unit (s := S1024x1024) ![0, 0] S1024x1024.size inb_S1024x1024_S1024x1024_0_0).toLoadRect hl) k) Ψ) := by
  have h0 : (![0, 0] : Fin 2 → ℕ) = fun _ => 0 := by decide
  unfold ownsTc owns
  iintro ⟨%f, %hf, H⟩ Hk
  iapply (wp_load 𝒱₀ (c : Thread nD τ) none Set.univ (m := xsM) (S := xsM.view.set) (f := f) (q := fullShare) (by
    rw [show xsM.view.set = Finset.univ from View.set_whole _]; exact Finset.subset_univ _)) $$ [H]
  · iexact H
  iintro H
  have e := Memref.readAt_unit_zero (Elt F) cc0_scratch9 (off := ![0, 0]) h0 inb_S1024x1024_S1024x1024_0_0 f
  rw [show xsM.view.readAt (Elt F) (Rect.unit (s := S1024x1024) ![0, 0] S1024x1024.size inb_S1024x1024_S1024x1024_0_0).toLoadRect f = X from e.trans hf]
  iapply Hk
  iexists f; isplitr; · ipureintro; exact hf
  iexact H

theorem xConv_spec (i : Fin 4) (l : List Due) :
    iprop(ctx m K ∗ xFly m c i ∗ xbEx c i ∗ owesE c l)
      ⊢ iprop((xIdle m c ∗ xb m c i ∗ owesE c l -∗ W c (k ⟨⟩) Ψ) -∗ W c (xConv c i >>= k) Ψ) := by
  simp only [xConv, xWait, xbLoad, Prog.lift, Prog.bind_op, Prog.bind_ret]
  unfold xIdle xFly xb xbEx
  iintro ⟨#Hc, ⟨Hf, HR⟩, ⟨%X, Hx⟩, HO⟩ Hk
  iapply (copy_wait m K c (xT c i) xsM xS dec_xS l) $$ [Hf HO]
  · isplitr; · iexact Hc
    isplitl [Hf] <;> iassumption
  iintro ⟨⟨Hs, Hw⟩, Hz, HO⟩
  iapply (load_xs c (xpart m c i)) $$ [Hs]; · iexact Hs
  iintro Hs
  iapply (load_slice c xbM (xbR c i) (fun _ => rfl) X) $$ [Hx]; · iexact Hx
  iintro Hx
  iapply (store_slice c xbM (xbR c i) (fun _ => rfl) X (halfV (xpart m c i))) $$ [Hx]; · iexact Hx
  iintro Hx
  iapply Hk
  isplitr [HO Hx]
  · isplitl [HR Hw]; · iapply HR; iexact Hw
    isplitl [Hs]; · iexists _; iexact Hs
    iexact Hz
  isplitl [Hx] <;> iassumption

/-! ## The tile steps -/

theorem load_ws (r : Fin 2) (j : Fin 4) {k : (S1x1024x1024.Idx → Elt F .f32) → TP F α} :
    wHold m c r j ⊢ iprop((wIdle m c r -∗ W c (k (shapeCast S1x1024x1024 (wpart m c r j) shapeCasts_S1024x1024_S1x1024x1024)) Ψ) -∗ W c (wsLoad r >>= k) Ψ) := by
  simp only [wsLoad, Prog.lift, Prog.bind_op, Prog.bind_ret]
  unfold wHold wIdle
  iintro ⟨HR, Hs, Hz⟩ Hk
  iapply (load_squeeze c wsM (slotR r) (fun _ => rfl) squeezes_S1x1024x1024_S1024x1024 shapeCasts_S1x1024x1024_S1024x1024 shapeCasts_S1024x1024_S1x1024x1024 (wpart m c r j)) $$ [Hs]
  · iexact Hs
  iintro Hs
  iapply Hk
  isplitl [HR]; · iexact HR
  isplitl [Hs]; · iexists _; iexact Hs
  iexact Hz

theorem load_tile (r s : Fin 2) (j : Fin 4) (X : Vec F S1024x1024 .bf16) {k : (S1x1024x1024.Idx → Elt F .bf16) → TP F α} :
    (ownsTc c (tileM r s j) fullShare X)
      ⊢ iprop((ownsTc c (tileM r s j) fullShare X -∗ W c (k (shapeCast S1x1024x1024 X shapeCasts_S1024x1024_S1x1024x1024)) Ψ) -∗ W c (tLoad r s j >>= k) Ψ) := by
  simp only [tLoad, Prog.lift, Prog.bind_op, Prog.bind_ret]
  exact load_squeeze c (bufM r) (tileR s j) (fun _ => rfl) squeezes_S1x1024x1024_S1024x1024 shapeCasts_S1x1024x1024_S1024x1024 shapeCasts_S1024x1024_S1x1024x1024 X

theorem store_tile (r s : Fin 2) (j : Fin 4) (y : FVec F S1024x1024 .f32) :
    (tileEx c r s j)
      ⊢ iprop((ownsTc c (tileM r s j) fullShare (truncf .bf16 y bitsLt_bf16_f32 : FVec F S1024x1024 .bf16) -∗ W c (k ⟨⟩) Ψ) -∗ W c (tStore r s j (packV y) >>= k) Ψ) := by
  simp only [tStore, Prog.lift, Prog.bind_op, Prog.bind_ret]
  iintro ⟨%X, H⟩
  rw [← packV_cast y shapeCasts_S1x1024x1024_S1024x1024]
  iapply (store_squeeze c (bufM r) (tileR s j) (fun _ => rfl) squeezes_S1x1024x1024_S1024x1024 shapeCasts_S1x1024x1024_S1024x1024 X (packV y))
  iexact H

/-- The start of every step: the weight tile awaited, the operands loaded. -/
theorem operands (r : Fin 2) (j i : Fin 4) (l : List Due) {k : FVec F S1024x1024 .bf16 → (S1x1024x1024.Idx → Elt F .f32) → TP F α} :
    iprop(ctx m K ∗ wFly m c r j ∗ xb m c i ∗ owesE c l)
      ⊢ iprop((wIdle m c r ∗ xb m c i ∗ owesE c l
            -∗ W c (k (halfV (xpart m c i)) (shapeCast S1x1024x1024 (wpart m c r j) shapeCasts_S1024x1024_S1x1024x1024)) Ψ)
          -∗ W c (wWait r j >>= fun _ => xbLoad c i >>= fun x => wsLoad r >>= fun w => k x w) Ψ) := by
  iintro ⟨#Hc, Hf, Hx, HO⟩ Hk
  iapply (wWait_spec m K c r j l) $$ [Hf HO]
  · isplitr; · iexact Hc
    isplitl [Hf] <;> iassumption
  iintro ⟨Hw, HO⟩
  unfold xb
  simp only [xbLoad, Prog.lift, Prog.bind_op, Prog.bind_ret]
  iapply (load_slice c xbM (xbR c i) (fun _ => rfl) (halfV (xpart m c i))) $$ [Hx]; · iexact Hx
  iintro Hx
  iapply (load_ws m c r j) $$ [Hw]; · iexact Hw
  iintro Hw
  iapply Hk
  isplitl [Hw]; · iexact Hw
  isplitl [Hx] <;> iassumption

theorem send_spec (r : Fin 2) (h : Fin 3) (j : Fin 4) (l : List Due) (n : Dev nD) (hn : n = dn r c) :
    iprop(ctx m K ∗ ownsTc c (tileM r (src h) j) fullShare (sv m r j h.val c) ∗ tileEx (dn r c) r (dst h) j ∗ owesE c (.rcv r h j :: l) ∗ hopS c r h j)
      ⊢ iprop((sent c r h j ∗ owesE c l -∗ W c (k ⟨⟩) Ψ) -∗ W c (rSend r h j n >>= k) Ψ) := by
  simp only [rSend, Prog.lift, Prog.bind_op, Prog.bind_ret]
  unfold hopS sent
  iintro ⟨#Hc, Hs, Hd, HO, ⟨Ht1, Ht2⟩⟩ Hk
  iapply (send_ix m K c r h j l n hn) $$ [Hs Hd HO Ht1 Ht2]
  · isplitr; · iexact Hc
    isplitl [Hs]; · iexact Hs
    isplitl [Hd]; · iexact Hd
    isplitl [HO]; · iexact HO
    isplitl [Ht1] <;> iassumption
  iexact Hk

/-- A hop's landing: the tile at the value sent from upstream. -/
theorem waitR_spec (r : Fin 2) (h : Fin 3) (j : Fin 4) (l : List Due) (hl : ∀ y ∈ l, ixLv (some (1, r, h, j)) < ixLv (dueIx y)) :
    iprop(ctx m K ∗ atPos ER (cell c (some (1, r, h, j))) 0 ∅ 0 ∗ cred (tallyAt (cell c (some (1, r, h, j))) () N) ∗ owesE c l)
      ⊢ iprop((semVal (cell c (some (1, r, h, j))) 0 ∗ ownsTc c (tileM r (dst h) j) fullShare (sv m r j h.val (up r c)) ∗ owesE c l -∗ W c (k ⟨⟩) Ψ)
          -∗ W c (rWaitR r h j >>= k) Ψ) := by
  simp only [rWaitR, Prog.lift, Prog.bind_op, Prog.bind_ret]
  iintro ⟨#Hc, Hat, Hcr, HO⟩ Hk
  iapply (wait_ix m K c (some (1, r, h, j)) l (k' := N)
    (fun K' => by rw [← tile_credit r (dst h) j]; exact wpE_waitDma2_eq 𝒱₀ (c : Thread nD τ) none Set.univ K')
    (Nat.one_mul N).symm hl) $$ [Hat Hcr HO]
  · isplitr; · iexact Hc
    isplitl [Hcr]; · iexact Hcr
    isplitl [HO] <;> iassumption
  iintro ⟨HO, Hz, Hp⟩
  ihave Hp := (show bigSep (dut (some (1, r, h, j))) (pay m c (some (1, r, h, j))) ⊢ ownsTc c (tileM r (dst h) j) fullShare (sv m r j h.val (up r c)) from
    bigSep_elim (i := 0) (Finset.mem_singleton_self _)) $$ Hp
  iapply Hk
  isplitl [Hz]; · iexact Hz
  isplitl [Hp] <;> iassumption

/-- and its departure: the slot sent from. -/
theorem waitS_spec (r : Fin 2) (h : Fin 3) (j : Fin 4) (l : List Due) :
    iprop(ctx m K ∗ atPos ER (cell c (some (0, r, h, j))) 0 ∅ 0 ∗ sent c r h j ∗ owesE c l)
      ⊢ iprop((semVal (cell c (some (0, r, h, j))) 0 ∗ tileEx c r (src h) j ∗ owesE c l -∗ W c (k ⟨⟩) Ψ)
          -∗ W c (rWaitS r h j >>= k) Ψ) := by
  simp only [rWaitS, Prog.lift, Prog.bind_op, Prog.bind_ret]
  unfold sent
  iintro ⟨#Hc, Hat, Hcr, HO⟩ Hk
  iapply (wait_ix m K c (some (0, r, h, j)) l (k' := N)
    (fun K' => by rw [← tile_credit r (src h) j]; exact wpE_waitDma2_eq 𝒱₀ (c : Thread nD τ) none Set.univ K')
    (Nat.one_mul N).symm (fun y _ => due_pos y)) $$ [Hat Hcr HO]
  · isplitr; · iexact Hc
    isplitl [Hcr]; · iexact Hcr
    isplitl [HO] <;> iassumption
  iintro ⟨HO, Hz, Hp⟩
  ihave Hp := (show bigSep (dut (some (0, r, h, j))) (pay m c (some (0, r, h, j))) ⊢ tileEx c r (src h) j from
    bigSep_elim (i := 0) (Finset.mem_singleton_self _)) $$ Hp
  iapply Hk
  isplitl [Hz]; · iexact Hz
  isplitl [Hp] <;> iassumption

theorem giveC_spec (r : Fin 2) (h : Fin 3) (j : Fin 4) (hh : h ≠ 0) (l : List Due) (n : Dev nD) (hn : n = up r c) :
    iprop(ctx m K ∗ dutyTok ER (cell (up r c) (some (2, r, h, j))) 0 0 ∗ tileEx c r (dst h) j ∗ owesE c (.crd r h j :: l))
      ⊢ iprop((owesE c l -∗ W c (k ⟨⟩) Ψ) -∗ W c (semSignalWord n (crdS r h j) 1#32 >>= k) Ψ) := by
  simp only [semSignalWord, Prog.lift, Prog.bind_op, Prog.bind_ret]
  iintro ⟨#Hc, Ht, Hp, HO⟩ Hk
  iapply (signal_crd m K c r h j hh l n hn) $$ [Ht Hp HO]
  · isplitr; · iexact Hc
    isplitl [HO]; · iexact HO
    isplitl [Ht] <;> iassumption
  iexact Hk

theorem takeC_spec (r : Fin 2) (h : Fin 3) (j : Fin 4) (hh : h ≠ 0) (l : List Due) (hl : ∀ y ∈ l, ixLv (some (2, r, h, j)) < ixLv (dueIx y)) :
    iprop(ctx m K ∗ atPos ER (cell c (some (2, r, h, j))) 0 ∅ 0 ∗ cred (tallyAt (cell c (some (2, r, h, j))) () 1) ∗ owesE c l)
      ⊢ iprop((zerC c r h j ∗ tileEx (dn r c) r (dst h) j ∗ owesE c l -∗ W c (k ⟨⟩) Ψ)
          -∗ W c (semWaitWord (crdS r h j) 1#32 >>= k) Ψ) := by
  simp only [semWaitWord, Prog.lift, Prog.bind_op, Prog.bind_ret]
  unfold zerC
  iintro ⟨#Hc, Hat, Hcr, HO⟩ Hk
  have hd : dut (some (2, r, h, j)) = {0} := by clear hl; revert hh; revert h r j; decide
  iapply (wait_ix m K c (some (2, r, h, j)) l (k' := 1)
    (fun K' => wpE_semWait_eq 𝒱₀ (c : Thread nD τ) none Set.univ K')
    (by rw [hd]; rfl) hl) $$ [Hat Hcr HO]
  · isplitr; · iexact Hc
    isplitl [Hcr]; · iexact Hcr
    isplitl [HO] <;> iassumption
  iintro ⟨HO, Hz, Hp⟩
  ihave Hp := (show bigSep (dut (some (2, r, h, j))) (pay m c (some (2, r, h, j))) ⊢ tileEx (dn r c) r (dst h) j from
    bigSep_elim (i := 0) (by rw [hd]; exact Finset.mem_singleton_self _)) $$ Hp
  iapply Hk
  isplitl [Hz]; · iexact Hz
  isplitl [Hp] <;> iassumption

theorem step0_spec (r : Fin 2) (j i : Fin 4) (hi : i = ci r 0) (l : List Due) (n : Dev nD) (hn : n = dn r c) :
    iprop(ctx m K ∗ wFly m c r j ∗ xb m c i ∗ T0 c r j ∗ tileEx (dn r c) r 1 j ∗ owesE c (.rcv r 0 j :: l))
      ⊢ iprop((wIdle m c r ∗ xb m c i ∗ T1 c r j ∗ owesE c l -∗ W c (k ⟨⟩) Ψ) -∗ W c (step0 c r j i n >>= k) Ψ) := by
  subst hi
  unfold T0 T1
  simp only [step0, Prog.bind_assoc]
  iintro ⟨#Hc, Hw, Hx, ⟨⟨%X, Ht⟩, HS, HT⟩, Hd, HO⟩ Hk
  iapply (operands m K c r j (ci r 0) (.rcv r 0 j :: l)) $$ [Hw Hx HO]
  · isplitr; · iexact Hc
    isplitl [Hw]; · iexact Hw
    isplitl [Hx] <;> iassumption
  iintro ⟨Hw, Hx, HO⟩
  rw [dotV_prod]
  iapply (load_tile c r 0 j X) $$ [Ht]; · iexact Ht
  iintro Ht
  iapply (store_tile c r 0 j (prod m c r j (ci r 0))) $$ [Ht]; · iexists X; iexact Ht
  iintro Ht
  iapply (send_spec m K c r 0 j l n hn) $$ [Ht Hd HO HS]
  · isplitr; · iexact Hc
    isplitl [Ht]; · iexact Ht
    isplitl [Hd]; · iexact Hd
    isplitl [HO] <;> iassumption
  iintro ⟨Hs, HO⟩
  iapply Hk
  isplitl [Hw]; · iexact Hw
  isplitl [Hx]; · iexact Hx
  isplitr [HO]
  · isplitl [Hs] <;> iassumption
  iexact HO

theorem step1_spec (r : Fin 2) (j i : Fin 4) (hi : i = ci r 1) (l : List Due) (u n : Dev nD) (hu : u = up r c) (hn : n = dn r c)
    (hl : ∀ y ∈ Due.crd r 1 j :: .rcv r 1 j :: l, ixLv (some (1, r, 0, j)) < ixLv (dueIx y))
    (hl' : ∀ y ∈ Due.rcv r 1 j :: l, ixLv (some (2, r, 1, j)) < ixLv (dueIx y)) :
    iprop(ctx m K ∗ wFly m c r j ∗ xb m c i ∗ T1 c r j ∗ owesE c (.crd r 1 j :: .rcv r 1 j :: l))
      ⊢ iprop((wIdle m c r ∗ xb m c i ∗ T2 c r j ∗ owesE c l -∗ W c (k ⟨⟩) Ψ) -∗ W c (step1 c r j i u n >>= k) Ψ) := by
  subst hi
  unfold T1 T2 mid hopW hopC zer
  simp only [step1, Prog.bind_assoc]
  iintro ⟨#Hc, Hw, Hx, ⟨Hst, ⟨⟨Har, Hcr, Has⟩, ⟨Htc, Hac, Hcc⟩, HS⟩, HT⟩, HO⟩ Hk
  iapply (operands m K c r j (ci r 1) _) $$ [Hw Hx HO]
  · isplitr; · iexact Hc
    isplitl [Hw]; · iexact Hw
    isplitl [Hx] <;> iassumption
  iintro ⟨Hw, Hx, HO⟩
  rw [dotV_prod]
  iapply (waitR_spec m K c r 0 j _ hl) $$ [Har Hcr HO]
  · isplitr; · iexact Hc
    isplitl [Har]; · iexact Har
    isplitl [Hcr] <;> iassumption
  iintro ⟨Hz1, Ht, HO⟩
  iapply (load_tile c r 1 j _) $$ [Ht]; · iexact Ht
  iintro Ht
  iapply (load_tile c r 1 j _) $$ [Ht]; · iexact Ht
  iintro Ht
  rw [sumV_cast]
  iapply (store_tile c r 1 j _) $$ [Ht]; · iexists _; iexact Ht
  iintro Ht
  iapply (waitS_spec m K c r 0 j _) $$ [Has Hst HO]
  · isplitr; · iexact Hc
    isplitl [Has]; · iexact Has
    isplitl [Hst] <;> iassumption
  iintro ⟨Hz0, Hs, HO⟩
  iapply (giveC_spec m K c r 1 j (by decide) _ u hu) $$ [Htc Hs HO]
  · isplitr; · iexact Hc
    isplitl [Htc]; · iexact Htc
    isplitl [Hs] <;> iassumption
  iintro HO
  iapply (takeC_spec m K c r 1 j (by decide) _ hl') $$ [Hac Hcc HO]
  · isplitr; · iexact Hc
    isplitl [Hac]; · iexact Hac
    isplitl [Hcc] <;> iassumption
  iintro ⟨Hz2, Hd, HO⟩
  iapply (send_spec m K c r 1 j l n hn) $$ [Ht Hd HO HS]
  · isplitr; · iexact Hc
    isplitl [Ht]; · iexact Ht
    isplitl [Hd]; · iexact Hd
    isplitl [HO] <;> iassumption
  iintro ⟨Hs, HO⟩
  iapply Hk
  isplitl [Hw]; · iexact Hw
  isplitl [Hx]; · iexact Hx
  isplitr [HO]
  · isplitl [Hs]; · iexact Hs
    icases HT with ⟨H1, H2, H3⟩
    isplitl [H1]; · iexact H1
    isplitl [H2]; · iexact H2
    isplitl [H3]; · iexact H3
    isplitr [Hz2]
    · isplitl [Hz0] <;> iassumption
    iexact Hz2
  iexact HO

theorem step2_spec (r : Fin 2) (j i : Fin 4) (hi : i = ci r 2) (l : List Due) (u n : Dev nD) (hu : u = up r c) (hn : n = dn r c)
    (hl : ∀ y ∈ Due.crd r 2 j :: .rcv r 2 j :: l, ixLv (some (1, r, 1, j)) < ixLv (dueIx y))
    (hl' : ∀ y ∈ Due.rcv r 2 j :: l, ixLv (some (2, r, 2, j)) < ixLv (dueIx y)) :
    iprop(ctx m K ∗ wFly m c r j ∗ xb m c i ∗ T2 c r j ∗ owesE c (.crd r 2 j :: .rcv r 2 j :: l))
      ⊢ iprop((wIdle m c r ∗ xb m c i ∗ T3 c r j ∗ owesE c l -∗ W c (k ⟨⟩) Ψ) -∗ W c (step2 c r j i u n >>= k) Ψ) := by
  subst hi
  unfold T2 T3 mid hopC
  simp only [step2, Prog.bind_assoc]
  iintro ⟨#Hc, Hw, Hx, ⟨Hst, ⟨HW, ⟨Htc, Hac, Hcc⟩, HS⟩, HT⟩, HO⟩ Hk
  ihave HW := (show hopW c r 1 j ⊢ (iprop(atPos ER (cell c (some (1, r, 1, j))) 0 ∅ 0 ∗ cred (tallyAt (cell c (some (1, r, 1, j))) () N) ∗ atPos ER (cell c (some (0, r, 1, j))) 0 ∅ 0) : sProp 𝕄) from by
    unfold hopW; iintro H; iexact H) $$ HW
  icases HW with ⟨Har, Hcr, Has⟩
  iapply (operands m K c r j (ci r 2) _) $$ [Hw Hx HO]
  · isplitr; · iexact Hc
    isplitl [Hw]; · iexact Hw
    isplitl [Hx] <;> iassumption
  iintro ⟨Hw, Hx, HO⟩
  rw [dotV_prod]
  iapply (waitR_spec m K c r 1 j _ hl) $$ [Har Hcr HO]
  · isplitr; · iexact Hc
    isplitl [Har]; · iexact Har
    isplitl [Hcr] <;> iassumption
  iintro ⟨Hz1, Ht, HO⟩
  iapply (waitS_spec m K c r 1 j _) $$ [Has Hst HO]
  · isplitr; · iexact Hc
    isplitl [Has]; · iexact Has
    isplitl [Hst] <;> iassumption
  iintro ⟨Hz0, Hs, HO⟩
  iapply (giveC_spec m K c r 2 j (by decide) _ u hu) $$ [Htc Hs HO]
  · isplitr; · iexact Hc
    isplitl [Htc]; · iexact Htc
    isplitl [Hs] <;> iassumption
  iintro HO
  iapply (load_tile c r 0 j _) $$ [Ht]; · iexact Ht
  iintro Ht
  iapply (load_tile c r 0 j _) $$ [Ht]; · iexact Ht
  iintro Ht
  rw [sumV_cast]
  iapply (store_tile c r 0 j _) $$ [Ht]; · iexists _; iexact Ht
  iintro Ht
  iapply (takeC_spec m K c r 2 j (by decide) _ hl') $$ [Hac Hcc HO]
  · isplitr; · iexact Hc
    isplitl [Hac]; · iexact Hac
    isplitl [Hcc] <;> iassumption
  iintro ⟨Hz2, Hd, HO⟩
  iapply (send_spec m K c r 2 j l n hn) $$ [Ht Hd HO HS]
  · isplitr; · iexact Hc
    isplitl [Ht]; · iexact Ht
    isplitl [Hd]; · iexact Hd
    isplitl [HO] <;> iassumption
  iintro ⟨Hs, HO⟩
  iapply Hk
  isplitl [Hw]; · iexact Hw
  isplitl [Hx]; · iexact Hx
  isplitr [HO]
  · isplitl [Hs]; · iexact Hs
    icases HT with ⟨H1, H2, H3, H4⟩
    isplitl [H1]; · iexact H1
    isplitl [H2]; · iexact H2
    isplitl [H3]; · iexact H3
    isplitl [H4]; · iexact H4
    isplitr [Hz2]
    · unfold zer; isplitl [Hz0] <;> iassumption
    iexact Hz2
  iexact HO

theorem step3_spec (r : Fin 2) (j i : Fin 4) (hi : i = ci r 3) (l : List Due)
    (hl : ∀ y ∈ l, ixLv (some (1, r, 2, j)) < ixLv (dueIx y)) :
    iprop(ctx m K ∗ wFly m c r j ∗ xb m c i ∗ T3 c r j ∗ owesE c l)
      ⊢ iprop((wIdle m c r ∗ xb m c i ∗ T4 m c r j ∗ owesE c l -∗ W c (k ⟨⟩) Ψ) -∗ W c (step3 c r j i >>= k) Ψ) := by
  subst hi
  unfold T3 T4 hopW out0
  simp only [step3, Prog.bind_assoc]
  iintro ⟨#Hc, Hw, Hx, ⟨Hst, ⟨Har, Hcr, Has⟩, ⟨Ho, Hzo⟩, H1, H2, H3, H4⟩, HO⟩ Hk
  iapply (operands m K c r j (ci r 3) _) $$ [Hw Hx HO]
  · isplitr; · iexact Hc
    isplitl [Hw]; · iexact Hw
    isplitl [Hx] <;> iassumption
  iintro ⟨Hw, Hx, HO⟩
  rw [dotV_prod]
  iapply (waitR_spec m K c r 2 j _ hl) $$ [Har Hcr HO]
  · isplitr; · iexact Hc
    isplitl [Har]; · iexact Har
    isplitl [Hcr] <;> iassumption
  iintro ⟨Hz1, Ht, HO⟩
  iapply (waitS_spec m K c r 2 j _) $$ [Has Hst HO]
  · isplitr; · iexact Hc
    isplitl [Has]; · iexact Has
    isplitl [Hst] <;> iassumption
  iintro ⟨Hz0, ⟨%X, Hs⟩, HO⟩
  iapply (load_tile c r 1 j _) $$ [Ht]; · iexact Ht
  iintro Ht
  iapply (load_tile c r 0 j X) $$ [Hs]; · iexact Hs
  iintro Hs
  rw [sumV_cast]
  iapply (store_tile c r 0 j _) $$ [Hs]; · iexists _; iexact Hs
  iintro Hs
  simp only [oStart, Prog.lift, Prog.bind_op, Prog.bind_ret]
  iapply (copy_start c (tileM r 0 j) (oT r j) (outS r j) (by decide) (q := fullShare) (fin m c r j)) $$ [Hs Ho Hzo]
  · isplitl [Hs]; · iexact Hs
    isplitl [Ho] <;> iassumption
  iintro Hf
  iapply Hk
  isplitl [Hw]; · iexact Hw
  isplitl [Hx]; · iexact Hx
  isplitr [HO]
  · isplitl [Hf]; · iexact Hf
    isplitl [Ht]; · iexists _; iexact Ht
    isplitl [H1]; · iexact H1
    isplitl [H2]; · iexact H2
    isplitl [H3]; · iexact H3
    isplitl [H4]; · iexact H4
    unfold zer; isplitl [Hz0] <;> iassumption
  iexact HO

theorem oWait_spec (r : Fin 2) (j : Fin 4) (l : List Due) :
    iprop(ctx m K ∗ T4 m c r j ∗ owesE c l)
      ⊢ iprop((T5 m c r j ∗ owesE c l -∗ W c (k ⟨⟩) Ψ) -∗ W c (oWait r j >>= k) Ψ) := by
  unfold T4 T5
  simp only [oWait, Prog.lift, Prog.bind_op, Prog.bind_ret]
  iintro ⟨#Hc, ⟨Hf, HT⟩, HO⟩ Hk
  iapply (copy_wait m K c (tileM r 0 j) (oT r j) (outS r j) (dec_outS r j) l) $$ [Hf HO]
  · isplitr; · iexact Hc
    isplitl [Hf] <;> iassumption
  iintro ⟨⟨Ho, Ht⟩, Hz, HO⟩
  iapply Hk
  isplitr [HO]
  · isplitl [Ho]; · iexact Ho
    isplitl [Hz]; · iexact Hz
    isplitl [Ht]; · iexists _; iexact Ht
    iexact HT
  iexact HO

/-! ## The barrier -/

theorem giveBar_spec (r : Fin 2) (l : List Due) (n : Dev nD) (hn : n = up r c) :
    iprop(ctx m K ∗ dutyTok ER (cell (up r c) none) 0 r ∗ (bigSep Finset.univ fun j : Fin 4 => tileEx c r 1 j) ∗ owesE c (.bar r :: l))
      ⊢ iprop((owesE c l -∗ W c (k ⟨⟩) Ψ) -∗ W c (semSignalWord n barS 1#32 >>= k) Ψ) := by
  simp only [semSignalWord, Prog.lift, Prog.bind_op, Prog.bind_ret]
  iintro ⟨#Hc, Ht, Hp, HO⟩ Hk
  iapply (signal_bar m K c r l n hn) $$ [Ht Hp HO]
  · isplitr; · iexact Hc
    isplitl [HO]; · iexact HO
    isplitl [Ht]; · iexact Ht
    iapply (show (bigSep Finset.univ fun j : Fin 4 => tileEx (F := F) c r 1 j) ⊢ pay m (up r c) none r from by
      unfold pay; simp only [dn_up]; iintro H; iexact H)
    iexact Hp
  iexact Hk

theorem takeBar_spec (l : List Due) (hl : ∀ y ∈ l, ixLv none < ixLv (dueIx y)) :
    iprop(ctx m K ∗ atPos ER (cell c none) 0 ∅ 0 ∗ cred (tallyAt (cell c none) () 2) ∗ owesE c l)
      ⊢ iprop((semVal (cell c none) 0 ∗ (bigSep Finset.univ fun j : Fin 4 => tileEx (dn 0 c) 0 1 j) ∗ (bigSep Finset.univ fun j : Fin 4 => tileEx (dn 1 c) 1 1 j)
            ∗ owesE c l -∗ W c (k ⟨⟩) Ψ) -∗ W c (semWaitWord barS 2#32 >>= k) Ψ) := by
  simp only [semWaitWord, Prog.lift, Prog.bind_op, Prog.bind_ret]
  iintro ⟨#Hc, Hat, Hcr, HO⟩ Hk
  iapply (wait_ix m K c none l (k' := 2) (fun K' => wpE_semWait_eq 𝒱₀ (c : Thread nD τ) none Set.univ K') rfl hl) $$ [Hat Hcr HO]
  · isplitr; · iexact Hc
    isplitl [Hcr]; · iexact Hcr
    isplitl [HO] <;> iassumption
  iintro ⟨HO, Hz, Hp⟩
  ihave Hp := (show bigSep (dut none) (pay m c none)
      ⊢ iprop((bigSep Finset.univ fun j : Fin 4 => tileEx (F := F) (dn 0 c) 0 1 j) ∗ bigSep Finset.univ fun j : Fin 4 => tileEx (F := F) (dn 1 c) 1 1 j) from
    Entails.of_eq (bigSep_fin_two _)) $$ Hp
  icases Hp with ⟨Hp0, Hp1⟩
  iapply Hk
  isplitl [Hz]; · iexact Hz
  isplitl [Hp0]; · iexact Hp0
  isplitl [Hp1] <;> iassumption

end Steps

end Cert.KernelIdeal.Run

end
-- ==== Proof.KernelIdeal.Body.lean ====
/-
The body: the tile steps one after another, from what the launch gives a device to what it ends with.
-/
module

public import proofs.«01_k».proof.Proof.KernelIdeal.Steps

@[expose] public section

set_option maxRecDepth 65536

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

theorem sep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep_fin2 (Φ : Fin 2 → sProp 𝕄) : bigSep Finset.univ Φ = iprop(Φ 0 ∗ Φ 1) := bigSep_fin_two Φ

/-- What the barrier is signalled and awaited with. -/
def bar0 (c : Dev nD) : sProp 𝕄 :=
  iprop(dutyTok ER (cell (up 0 c) none) 0 0 ∗ dutyTok ER (cell (up 1 c) none) 0 1 ∗ atPos ER (cell c none) 0 ∅ 0 ∗ cred (tallyAt (cell c none) () 2))
/-- A device's start, -/
def bodyPre (c : Dev nD) : sProp 𝕄 :=
  iprop(bar0 c ∗ (wIdle m c 0 ∗ wIdle m c 1) ∗ xIdle m c ∗ (bigSep Finset.univ fun i : Fin 4 => xbEx c i)
    ∗ (bigSep Finset.univ fun r : Fin 2 => bigSep Finset.univ fun j : Fin 4 => tileEx c r 1 j)
    ∗ (bigSep Finset.univ fun r : Fin 2 => bigSep Finset.univ fun j : Fin 4 => T0 c r j) ∗ owesE c dues)
/-- and its end. -/
def bodyPost (c : Dev nD) : sProp 𝕄 :=
  iprop(semVal (cell c none) 0 ∗ (wIdle m c 0 ∗ wIdle m c 1) ∗ xIdle m c ∗ (bigSep Finset.univ fun i : Fin 4 => xb m c i)
    ∗ (bigSep Finset.univ fun r : Fin 2 => bigSep Finset.univ fun j : Fin 4 => T5 m c r j) ∗ owesE c [])

section Body
variable (c : Dev nD)

theorem devId_spec {α : Type} {Ψ : α → sProp (MT nD τ sig Unit (Elt F) ℕ UU ℕ)} {k : Dev nD → TP F α} :
    W c (k c) Ψ ⊢ W c (Prog.lift .deviceId >>= k) Ψ := by
  simp only [Prog.lift, Prog.bind_op, Prog.bind_ret]
  unfold W
  rw [wp_deviceId]
theorem oWait_last {Ψ : PUnit → sProp (MT nD τ sig Unit (Elt F) ℕ UU ℕ)} (r : Fin 2) (j : Fin 4) (l : List Due) :
    iprop(ctx m K ∗ T4 m c r j ∗ owesE c l) ⊢ iprop((T5 m c r j ∗ owesE c l -∗ Ψ ⟨⟩) -∗ W c (oWait r j) Ψ) := by
  have h := oWait_spec m K c (Ψ := Ψ) (k := fun _ => .ret ⟨⟩) r j l
  have e : Ψ ⟨⟩ ⊢ W c (Prog.ret ⟨⟩ : TP F PUnit) Ψ := by
    unfold W; rw [wp_ret]; iintro H; imodintro; iexact H
  iintro H Hk
  iapply h $$ [H]; · iexact H
  iintro H
  iapply e
  iapply Hk; iexact H

set_option maxHeartbeats 4000000 in
theorem body_run {Ψ : PUnit → sProp (MT nD τ sig Unit (Elt F) ℕ UU ℕ)} :
    iprop(ctx m K ∗ bodyPre m c) ⊢ iprop((bodyPost m c -∗ Ψ ⟨⟩) -∗ W c (prog (F := F)) Ψ) := by
  unfold bodyPre bar0 prog
  simp only [sep_fin4 (F := F), sep_fin2 (F := F)]
  iintro ⟨#Hc, ⟨Hb0, Hb1, Hba, Hbc⟩, ⟨W0, W1⟩, XI, ⟨X0, X1, X2, X3⟩, ⟨⟨S00, S01, S02, S03⟩, ⟨S10, S11, S12, S13⟩⟩, ⟨⟨T00, T01, T02, T03⟩, ⟨T10, T11, T12, T13⟩⟩, HO⟩ Hk
  iapply (devId_spec c)
  iapply (wStart_spec m c 0 0) $$ [W0]; · iexact W0
  iintro W0
  iapply (xStart_spec m c 3) $$ [XI]; · iexact XI
  iintro XI
  iapply (giveBar_spec m K c 0 (dues.drop 1) _ (by revert c; decide)) $$ [Hb0 S00 S01 S02 S03 HO]
  · isplitr; · iexact Hc
    isplitl [Hb0]; · iexact Hb0
    isplitr [HO]
    · simp only [sep_fin4 (F := F)]
      isplitl [S00]; · iexact S00
      isplitl [S01]; · iexact S01
      isplitl [S02] <;> iassumption
    iexact HO
  iintro HO
  iapply (giveBar_spec m K c 1 (dues.drop 2) _ (by revert c; decide)) $$ [Hb1 S10 S11 S12 S13 HO]
  · isplitr; · iexact Hc
    isplitl [Hb1]; · iexact Hb1
    isplitr [HO]
    · simp only [sep_fin4 (F := F)]
      isplitl [S10]; · iexact S10
      isplitl [S11]; · iexact S11
      isplitl [S12] <;> iassumption
    iexact HO
  iintro HO
  iapply (takeBar_spec m K c (dues.drop 2) (by decide)) $$ [Hba Hbc HO]
  · isplitr; · iexact Hc
    isplitl [Hba]; · iexact Hba
    isplitl [Hbc] <;> iassumption
  simp only [sep_fin4 (F := F)]
  iintro ⟨Hbz, ⟨D00, D01, D02, D03⟩, ⟨D10, D11, D12, D13⟩, HO⟩
  iapply (xConv_spec m K c 3 (dues.drop 2)) $$ [XI X3 HO]
  · isplitr; · iexact Hc
    isplitl [XI]; · iexact XI
    isplitl [X3]; · iexact X3
    iexact HO
  iintro ⟨XI, X3, HO⟩
  iapply (xStart_spec m c 1) $$ [XI]; · iexact XI
  iintro XI
  iapply (wStart_spec m c 1 0) $$ [W1]; · iexact W1
  iintro W1
  iapply (step0_spec m K c 0 0 3 rfl (dues.drop 3) _ (by revert c; decide)) $$ [W0 X3 T00 D00 HO]
  · isplitr; · iexact Hc
    isplitl [W0]; · iexact W0
    isplitl [X3]; · iexact X3
    isplitl [T00]; · iexact T00
    isplitl [D00]; · iexact D00
    iexact HO
  iintro ⟨W0, X3, T00, HO⟩
  iapply (xConv_spec m K c 1 (dues.drop 3)) $$ [XI X1 HO]
  · isplitr; · iexact Hc
    isplitl [XI]; · iexact XI
    isplitl [X1]; · iexact X1
    iexact HO
  iintro ⟨XI, X1, HO⟩
  iapply (xStart_spec m c 2) $$ [XI]; · iexact XI
  iintro XI
  iapply (wStart_spec m c 0 1) $$ [W0]; · iexact W0
  iintro W0
  iapply (step0_spec m K c 1 0 1 rfl (dues.drop 4) _ (by revert c; decide)) $$ [W1 X1 T10 D10 HO]
  · isplitr; · iexact Hc
    isplitl [W1]; · iexact W1
    isplitl [X1]; · iexact X1
    isplitl [T10]; · iexact T10
    isplitl [D10]; · iexact D10
    iexact HO
  iintro ⟨W1, X1, T10, HO⟩
  iapply (wStart_spec m c 1 1) $$ [W1]; · iexact W1
  iintro W1
  iapply (step0_spec m K c 0 1 3 rfl (dues.drop 5) _ (by revert c; decide)) $$ [W0 X3 T01 D01 HO]
  · isplitr; · iexact Hc
    isplitl [W0]; · iexact W0
    isplitl [X3]; · iexact X3
    isplitl [T01]; · iexact T01
    isplitl [D01]; · iexact D01
    iexact HO
  iintro ⟨W0, X3, T01, HO⟩
  iapply (wStart_spec m c 0 2) $$ [W0]; · iexact W0
  iintro W0
  iapply (step0_spec m K c 1 1 1 rfl (dues.drop 6) _ (by revert c; decide)) $$ [W1 X1 T11 D11 HO]
  · isplitr; · iexact Hc
    isplitl [W1]; · iexact W1
    isplitl [X1]; · iexact X1
    isplitl [T11]; · iexact T11
    isplitl [D11]; · iexact D11
    iexact HO
  iintro ⟨W1, X1, T11, HO⟩
  iapply (wStart_spec m c 1 2) $$ [W1]; · iexact W1
  iintro W1
  iapply (step0_spec m K c 0 2 3 rfl (dues.drop 7) _ (by revert c; decide)) $$ [W0 X3 T02 D02 HO]
  · isplitr; · iexact Hc
    isplitl [W0]; · iexact W0
    isplitl [X3]; · iexact X3
    isplitl [T02]; · iexact T02
    isplitl [D02]; · iexact D02
    iexact HO
  iintro ⟨W0, X3, T02, HO⟩
  iapply (wStart_spec m c 0 3) $$ [W0]; · iexact W0
  iintro W0
  iapply (step0_spec m K c 1 2 1 rfl (dues.drop 8) _ (by revert c; decide)) $$ [W1 X1 T12 D12 HO]
  · isplitr; · iexact Hc
    isplitl [W1]; · iexact W1
    isplitl [X1]; · iexact X1
    isplitl [T12]; · iexact T12
    isplitl [D12]; · iexact D12
    iexact HO
  iintro ⟨W1, X1, T12, HO⟩
  iapply (wStart_spec m c 1 3) $$ [W1]; · iexact W1
  iintro W1
  iapply (step0_spec m K c 0 3 3 rfl (dues.drop 9) _ (by revert c; decide)) $$ [W0 X3 T03 D03 HO]
  · isplitr; · iexact Hc
    isplitl [W0]; · iexact W0
    isplitl [X3]; · iexact X3
    isplitl [T03]; · iexact T03
    isplitl [D03]; · iexact D03
    iexact HO
  iintro ⟨W0, X3, T03, HO⟩
  iapply (wStart_spec m c 0 0) $$ [W0]; · iexact W0
  iintro W0
  iapply (step0_spec m K c 1 3 1 rfl (dues.drop 10) _ (by revert c; decide)) $$ [W1 X1 T13 D13 HO]
  · isplitr; · iexact Hc
    isplitl [W1]; · iexact W1
    isplitl [X1]; · iexact X1
    isplitl [T13]; · iexact T13
    isplitl [D13]; · iexact D13
    iexact HO
  iintro ⟨W1, X1, T13, HO⟩
  iapply (xConv_spec m K c 2 (dues.drop 10)) $$ [XI X2 HO]
  · isplitr; · iexact Hc
    isplitl [XI]; · iexact XI
    isplitl [X2]; · iexact X2
    iexact HO
  iintro ⟨XI, X2, HO⟩
  iapply (xStart_spec m c 0) $$ [XI]; · iexact XI
  iintro XI
  iapply (xConv_spec m K c 0 (dues.drop 10)) $$ [XI X0 HO]
  · isplitr; · iexact Hc
    isplitl [XI]; · iexact XI
    isplitl [X0]; · iexact X0
    iexact HO
  iintro ⟨XI, X0, HO⟩
  iapply (wStart_spec m c 1 0) $$ [W1]; · iexact W1
  iintro W1
  iapply (step1_spec m K c 0 0 2 rfl (dues.drop 12) _ _ (by revert c; decide) (by revert c; decide) (by decide) (by decide)) $$ [W0 X2 T00 HO]
  · isplitr; · iexact Hc
    isplitl [W0]; · iexact W0
    isplitl [X2]; · iexact X2
    isplitl [T00]; · iexact T00
    iexact HO
  iintro ⟨W0, X2, T00, HO⟩
  iapply (wStart_spec m c 0 1) $$ [W0]; · iexact W0
  iintro W0
  iapply (step1_spec m K c 1 0 2 rfl (dues.drop 14) _ _ (by revert c; decide) (by revert c; decide) (by decide) (by decide)) $$ [W1 X2 T10 HO]
  · isplitr; · iexact Hc
    isplitl [W1]; · iexact W1
    isplitl [X2]; · iexact X2
    isplitl [T10]; · iexact T10
    iexact HO
  iintro ⟨W1, X2, T10, HO⟩
  iapply (wStart_spec m c 1 1) $$ [W1]; · iexact W1
  iintro W1
  iapply (step1_spec m K c 0 1 2 rfl (dues.drop 16) _ _ (by revert c; decide) (by revert c; decide) (by decide) (by decide)) $$ [W0 X2 T01 HO]
  · isplitr; · iexact Hc
    isplitl [W0]; · iexact W0
    isplitl [X2]; · iexact X2
    isplitl [T01]; · iexact T01
    iexact HO
  iintro ⟨W0, X2, T01, HO⟩
  iapply (wStart_spec m c 0 2) $$ [W0]; · iexact W0
  iintro W0
  iapply (step1_spec m K c 1 1 2 rfl (dues.drop 18) _ _ (by revert c; decide) (by revert c; decide) (by decide) (by decide)) $$ [W1 X2 T11 HO]
  · isplitr; · iexact Hc
    isplitl [W1]; · iexact W1
    isplitl [X2]; · iexact X2
    isplitl [T11]; · iexact T11
    iexact HO
  iintro ⟨W1, X2, T11, HO⟩
  iapply (wStart_spec m c 1 2) $$ [W1]; · iexact W1
  iintro W1
  iapply (step1_spec m K c 0 2 2 rfl (dues.drop 20) _ _ (by revert c; decide) (by revert c; decide) (by decide) (by decide)) $$ [W0 X2 T02 HO]
  · isplitr; · iexact Hc
    isplitl [W0]; · iexact W0
    isplitl [X2]; · iexact X2
    isplitl [T02]; · iexact T02
    iexact HO
  iintro ⟨W0, X2, T02, HO⟩
  iapply (wStart_spec m c 0 3) $$ [W0]; · iexact W0
  iintro W0
  iapply (step1_spec m K c 1 2 2 rfl (dues.drop 22) _ _ (by revert c; decide) (by revert c; decide) (by decide) (by decide)) $$ [W1 X2 T12 HO]
  · isplitr; · iexact Hc
    isplitl [W1]; · iexact W1
    isplitl [X2]; · iexact X2
    isplitl [T12]; · iexact T12
    iexact HO
  iintro ⟨W1, X2, T12, HO⟩
  iapply (wStart_spec m c 1 3) $$ [W1]; · iexact W1
  iintro W1
  iapply (step1_spec m K c 0 3 2 rfl (dues.drop 24) _ _ (by revert c; decide) (by revert c; decide) (by decide) (by decide)) $$ [W0 X2 T03 HO]
  · isplitr; · iexact Hc
    isplitl [W0]; · iexact W0
    isplitl [X2]; · iexact X2
    isplitl [T03]; · iexact T03
    iexact HO
  iintro ⟨W0, X2, T03, HO⟩
  iapply (wStart_spec m c 0 0) $$ [W0]; · iexact W0
  iintro W0
  iapply (step1_spec m K c 1 3 2 rfl (dues.drop 26) _ _ (by revert c; decide) (by revert c; decide) (by decide) (by decide)) $$ [W1 X2 T13 HO]
  · isplitr; · iexact Hc
    isplitl [W1]; · iexact W1
    isplitl [X2]; · iexact X2
    isplitl [T13]; · iexact T13
    iexact HO
  iintro ⟨W1, X2, T13, HO⟩
  iapply (wStart_spec m c 1 0) $$ [W1]; · iexact W1
  iintro W1
  iapply (step2_spec m K c 0 0 1 rfl (dues.drop 28) _ _ (by revert c; decide) (by revert c; decide) (by decide) (by decide)) $$ [W0 X1 T00 HO]
  · isplitr; · iexact Hc
    isplitl [W0]; · iexact W0
    isplitl [X1]; · iexact X1
    isplitl [T00]; · iexact T00
    iexact HO
  iintro ⟨W0, X1, T00, HO⟩
  iapply (wStart_spec m c 0 1) $$ [W0]; · iexact W0
  iintro W0
  iapply (step2_spec m K c 1 0 3 rfl (dues.drop 30) _ _ (by revert c; decide) (by revert c; decide) (by decide) (by decide)) $$ [W1 X3 T10 HO]
  · isplitr; · iexact Hc
    isplitl [W1]; · iexact W1
    isplitl [X3]; · iexact X3
    isplitl [T10]; · iexact T10
    iexact HO
  iintro ⟨W1, X3, T10, HO⟩
  iapply (wStart_spec m c 1 1) $$ [W1]; · iexact W1
  iintro W1
  iapply (step2_spec m K c 0 1 1 rfl (dues.drop 32) _ _ (by revert c; decide) (by revert c; decide) (by decide) (by decide)) $$ [W0 X1 T01 HO]
  · isplitr; · iexact Hc
    isplitl [W0]; · iexact W0
    isplitl [X1]; · iexact X1
    isplitl [T01]; · iexact T01
    iexact HO
  iintro ⟨W0, X1, T01, HO⟩
  iapply (wStart_spec m c 0 2) $$ [W0]; · iexact W0
  iintro W0
  iapply (step2_spec m K c 1 1 3 rfl (dues.drop 34) _ _ (by revert c; decide) (by revert c; decide) (by decide) (by decide)) $$ [W1 X3 T11 HO]
  · isplitr; · iexact Hc
    isplitl [W1]; · iexact W1
    isplitl [X3]; · iexact X3
    isplitl [T11]; · iexact T11
    iexact HO
  iintro ⟨W1, X3, T11, HO⟩
  iapply (wStart_spec m c 1 2) $$ [W1]; · iexact W1
  iintro W1
  iapply (step2_spec m K c 0 2 1 rfl (dues.drop 36) _ _ (by revert c; decide) (by revert c; decide) (by decide) (by decide)) $$ [W0 X1 T02 HO]
  · isplitr; · iexact Hc
    isplitl [W0]; · iexact W0
    isplitl [X1]; · iexact X1
    isplitl [T02]; · iexact T02
    iexact HO
  iintro ⟨W0, X1, T02, HO⟩
  iapply (wStart_spec m c 0 3) $$ [W0]; · iexact W0
  iintro W0
  iapply (step2_spec m K c 1 2 3 rfl (dues.drop 38) _ _ (by revert c; decide) (by revert c; decide) (by decide) (by decide)) $$ [W1 X3 T12 HO]
  · isplitr; · iexact Hc
    isplitl [W1]; · iexact W1
    isplitl [X3]; · iexact X3
    isplitl [T12]; · iexact T12
    iexact HO
  iintro ⟨W1, X3, T12, HO⟩
  iapply (wStart_spec m c 1 3) $$ [W1]; · iexact W1
  iintro W1
  iapply (step2_spec m K c 0 3 1 rfl (dues.drop 40) _ _ (by revert c; decide) (by revert c; decide) (by decide) (by decide)) $$ [W0 X1 T03 HO]
  · isplitr; · iexact Hc
    isplitl [W0]; · iexact W0
    isplitl [X1]; · iexact X1
    isplitl [T03]; · iexact T03
    iexact HO
  iintro ⟨W0, X1, T03, HO⟩
  iapply (wStart_spec m c 0 0) $$ [W0]; · iexact W0
  iintro W0
  iapply (step2_spec m K c 1 3 3 rfl (dues.drop 42) _ _ (by revert c; decide) (by revert c; decide) (by decide) (by decide)) $$ [W1 X3 T13 HO]
  · isplitr; · iexact Hc
    isplitl [W1]; · iexact W1
    isplitl [X3]; · iexact X3
    isplitl [T13]; · iexact T13
    iexact HO
  iintro ⟨W1, X3, T13, HO⟩
  iapply (wStart_spec m c 1 0) $$ [W1]; · iexact W1
  iintro W1
  iapply (step3_spec m K c 0 0 0 rfl (dues.drop 42) (by decide)) $$ [W0 X0 T00 HO]
  · isplitr; · iexact Hc
    isplitl [W0]; · iexact W0
    isplitl [X0]; · iexact X0
    isplitl [T00]; · iexact T00
    iexact HO
  iintro ⟨W0, X0, T00, HO⟩
  iapply (wStart_spec m c 0 1) $$ [W0]; · iexact W0
  iintro W0
  iapply (step3_spec m K c 1 0 0 rfl (dues.drop 42) (by decide)) $$ [W1 X0 T10 HO]
  · isplitr; · iexact Hc
    isplitl [W1]; · iexact W1
    isplitl [X0]; · iexact X0
    isplitl [T10]; · iexact T10
    iexact HO
  iintro ⟨W1, X0, T10, HO⟩
  iapply (wStart_spec m c 1 1) $$ [W1]; · iexact W1
  iintro W1
  iapply (step3_spec m K c 0 1 0 rfl (dues.drop 42) (by decide)) $$ [W0 X0 T01 HO]
  · isplitr; · iexact Hc
    isplitl [W0]; · iexact W0
    isplitl [X0]; · iexact X0
    isplitl [T01]; · iexact T01
    iexact HO
  iintro ⟨W0, X0, T01, HO⟩
  iapply (wStart_spec m c 0 2) $$ [W0]; · iexact W0
  iintro W0
  iapply (step3_spec m K c 1 1 0 rfl (dues.drop 42) (by decide)) $$ [W1 X0 T11 HO]
  · isplitr; · iexact Hc
    isplitl [W1]; · iexact W1
    isplitl [X0]; · iexact X0
    isplitl [T11]; · iexact T11
    iexact HO
  iintro ⟨W1, X0, T11, HO⟩
  iapply (wStart_spec m c 1 2) $$ [W1]; · iexact W1
  iintro W1
  iapply (step3_spec m K c 0 2 0 rfl (dues.drop 42) (by decide)) $$ [W0 X0 T02 HO]
  · isplitr; · iexact Hc
    isplitl [W0]; · iexact W0
    isplitl [X0]; · iexact X0
    isplitl [T02]; · iexact T02
    iexact HO
  iintro ⟨W0, X0, T02, HO⟩
  iapply (wStart_spec m c 0 3) $$ [W0]; · iexact W0
  iintro W0
  iapply (step3_spec m K c 1 2 0 rfl (dues.drop 42) (by decide)) $$ [W1 X0 T12 HO]
  · isplitr; · iexact Hc
    isplitl [W1]; · iexact W1
    isplitl [X0]; · iexact X0
    isplitl [T12]; · iexact T12
    iexact HO
  iintro ⟨W1, X0, T12, HO⟩
  iapply (wStart_spec m c 1 3) $$ [W1]; · iexact W1
  iintro W1
  iapply (step3_spec m K c 0 3 0 rfl (dues.drop 42) (by decide)) $$ [W0 X0 T03 HO]
  · isplitr; · iexact Hc
    isplitl [W0]; · iexact W0
    isplitl [X0]; · iexact X0
    isplitl [T03]; · iexact T03
    iexact HO
  iintro ⟨W0, X0, T03, HO⟩
  iapply (step3_spec m K c 1 3 0 rfl (dues.drop 42) (by decide)) $$ [W1 X0 T13 HO]
  · isplitr; · iexact Hc
    isplitl [W1]; · iexact W1
    isplitl [X0]; · iexact X0
    isplitl [T13]; · iexact T13
    iexact HO
  iintro ⟨W1, X0, T13, HO⟩
  iapply (oWait_spec m K c 0 0 (dues.drop 42)) $$ [T00 HO]
  · isplitr; · iexact Hc
    isplitl [T00]; · iexact T00
    iexact HO
  iintro ⟨T00, HO⟩
  iapply (oWait_spec m K c 1 0 (dues.drop 42)) $$ [T10 HO]
  · isplitr; · iexact Hc
    isplitl [T10]; · iexact T10
    iexact HO
  iintro ⟨T10, HO⟩
  iapply (oWait_spec m K c 0 1 (dues.drop 42)) $$ [T01 HO]
  · isplitr; · iexact Hc
    isplitl [T01]; · iexact T01
    iexact HO
  iintro ⟨T01, HO⟩
  iapply (oWait_spec m K c 1 1 (dues.drop 42)) $$ [T11 HO]
  · isplitr; · iexact Hc
    isplitl [T11]; · iexact T11
    iexact HO
  iintro ⟨T11, HO⟩
  iapply (oWait_spec m K c 0 2 (dues.drop 42)) $$ [T02 HO]
  · isplitr; · iexact Hc
    isplitl [T02]; · iexact T02
    iexact HO
  iintro ⟨T02, HO⟩
  iapply (oWait_spec m K c 1 2 (dues.drop 42)) $$ [T12 HO]
  · isplitr; · iexact Hc
    isplitl [T12]; · iexact T12
    iexact HO
  iintro ⟨T12, HO⟩
  iapply (oWait_spec m K c 0 3 (dues.drop 42)) $$ [T03 HO]
  · isplitr; · iexact Hc
    isplitl [T03]; · iexact T03
    iexact HO
  iintro ⟨T03, HO⟩
  iapply (oWait_last m K c 1 3 (dues.drop 42)) $$ [T13 HO]
  · isplitr; · iexact Hc
    isplitl [T13]; · iexact T13
    iexact HO
  iintro ⟨T13, HO⟩
  iapply Hk
  unfold bodyPost
  simp only [sep_fin4 (F := F), sep_fin2 (F := F)]
  isplitl [Hbz]; · iexact Hbz
  isplitl [W0 W1]; · isplitl [W0] <;> iassumption
  isplitl [XI]; · iexact XI
  isplitl [X0 X1 X2 X3]
  · isplitl [X0]; · iexact X0
    isplitl [X1]; · iexact X1
    isplitl [X2] <;> iassumption
  isplitr [HO]
  · isplitl [T00 T01 T02 T03]
    · isplitl [T00]; · iexact T00
      isplitl [T01]; · iexact T01
      isplitl [T02] <;> iassumption
    · isplitl [T10]; · iexact T10
      isplitl [T11]; · iexact T11
      isplitl [T12] <;> iassumption
  iexact HO

end Body

end Cert.KernelIdeal.Run

end
-- ==== Proof.KernelIdeal.Split.lean ====
/-
Buffers and their tiles: a buffer owned whole is each tile of a family that covers it, and back. The
contents of the result are read off its column tiles (`outB`).
-/
module

public import proofs.«01_k».proof.Proof.KernelIdeal.Body

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Contents put together from tiles -/

section Glue
variable {sh : Shape} {T : Type} (r : T → Rect sh)

open Classical in
/-- The contents that read `Xs t` on tile `t`. -/
def glueV {α : Type} [Nonempty α] (Xs : (t : T) → (r t).shape.Idx → α) : sh.Idx → α := fun i =>
  if h : ∃ p : (t : T) × (r t).shape.Idx, (r p.1).emb p.2 = i then Xs h.choose.1 h.choose.2 else Classical.arbitrary α

theorem glueV_emb {α : Type} [Nonempty α] (hd : ∀ t t', t ≠ t' → Disjoint (r t).set (r t').set) (Xs : (t : T) → (r t).shape.Idx → α)
    (t : T) (j : (r t).shape.Idx) : glueV r Xs ((r t).emb j) = Xs t j := by
  have h : ∃ p : (t : T) × (r t).shape.Idx, (r p.1).emb p.2 = (r t).emb j := ⟨⟨t, j⟩, rfl⟩
  unfold glueV
  rw [dif_pos h]
  have e := h.choose_spec
  generalize h.choose = p at e
  obtain ⟨t', j'⟩ := p
  have ht : t' = t := by
    by_contra hne
    have h1 : (r t').emb j' ∈ (r t').set := by rw [← Rect.map_emb_univ]; exact Finset.mem_map_of_mem _ (Finset.mem_univ _)
    have h2 : (r t').emb j' ∈ (r t).set := by rw [e, ← Rect.map_emb_univ]; exact Finset.mem_map_of_mem _ (Finset.mem_univ _)
    exact Finset.disjoint_left.mp (hd t' t hne) h1 h2
  subst ht
  rw [(r t').emb.injective e]

end Glue

/-! ## A memref and a covering family of its slices -/

section Families
variable (c : Dev nD) {sp : Space} {sh : Shape} {e : EltTy} (M : Memref sig .tc sp sh e)
variable {T : Type} [Fintype T] [DecidableEq T] (r : T → Rect sh) (hr : ∀ t a, (r t).stride a = 1)
variable (hd : ∀ t t', t ≠ t' → Disjoint (r t).set (r t').set) (hcov : (Finset.univ : Finset T).biUnion (fun t => (r t).set) = Finset.univ)

theorem own_ex (X : sh.Idx → Elt F e) : ownsTc c M fullShare X ⊢ (iprop(∃ X, ownsTc c M fullShare X) : sProp 𝕄) := by
  iintro H; iexists _; iexact H

include hd hcov in
theorem ex_split : iprop(∃ X, ownsTc c M fullShare X) ⊢ (bigSep Finset.univ fun t => iprop(∃ X, ownsTc c (M.slice (r t) (hr t)) fullShare X) : sProp 𝕄) := by
  iintro ⟨%X, H⟩
  iapply ((owns_rects (c : Thread nD τ) M fullShare r hr hd hcov X).trans (bigSep_mono fun t _ => own_ex c (M.slice (r t) (hr t)) _))
  iexact H

include hd hcov in
theorem val_join (Xs : (t : T) → (r t).shape.Idx → Elt F e) :
    (bigSep Finset.univ fun t => ownsTc c (M.slice (r t) (hr t)) fullShare (Xs t)) ⊢ (ownsTc c M fullShare (glueV r Xs) : sProp 𝕄) := by
  have h := owns_of_rects (Val := Elt F) (Ix := Unit) (Name := ℕ) (U := UU) (Lvl := ℕ) (c : Thread nD τ) M fullShare r hr hd hcov (glueV r Xs)
  simp only [glueV_emb r hd Xs] at h
  exact h

include hd hcov in
theorem ex_join : (bigSep Finset.univ fun t => iprop(∃ X, ownsTc c (M.slice (r t) (hr t)) fullShare X)) ⊢ (iprop(∃ X, ownsTc c M fullShare X) : sProp 𝕄) := by
  refine (bigSep_exists_pi Finset.univ (fun (t : T) (X : (r t).shape.Idx → Elt F e) => (ownsTc c (M.slice (r t) (hr t)) fullShare X : sProp 𝕄))).trans ?_
  iintro ⟨%Xs, H⟩
  iexists (glueV r Xs)
  iapply (val_join c M r hr hd hcov Xs); iexact H

end Families

section Squeeze
variable (c : Dev nD) {sp : Space} {sh s' : Shape} {e : EltTy} (M : Memref sig .tc sp sh e) (hq : sh.Squeezes s')

theorem ex_squeeze : iprop(∃ X, ownsTc c M fullShare X) ⊢ (iprop(∃ X, ownsTc c (M.squeeze s' hq) fullShare X) : sProp 𝕄) := by
  have hset : (M.squeeze s' hq).view.set = M.view.set := View.set_reshape _ _
  unfold ownsTc owns
  iintro ⟨%X, %f, -, H⟩
  iexists _; iexists f
  isplitr; · ipureintro; rfl
  rw [hset]; iexact H
theorem ex_unsqueeze : iprop(∃ X, ownsTc c (M.squeeze s' hq) fullShare X) ⊢ (iprop(∃ X, ownsTc c M fullShare X) : sProp 𝕄) := by
  have hset : (M.squeeze s' hq).view.set = M.view.set := View.set_reshape _ _
  unfold ownsTc owns
  iintro ⟨%X, %f, -, H⟩
  iexists _; iexists f
  isplitr; · ipureintro; rfl
  rw [← hset]; iexact H

end Squeeze

/-! ## The kernel's families -/

abbrev tF (p : Fin 2 × Fin 4) : Rect S2x1024x4096 := tileR p.1 p.2
abbrev cF (p : Fin 2 × Fin 4) : Rect S1024x8192 := colR p.1 p.2

theorem tF_disj : ∀ p p', p ≠ p' → Disjoint (tF p).set (tF p').set := by
  rintro ⟨s, j⟩ ⟨s', j'⟩ hne
  rw [Finset.disjoint_left]
  intro i h h'
  rw [Rect.mem_set_unit] at h h'
  have a0 : s.val ≤ (i 0).val ∧ (i 0).val < s.val + 1 := h 0
  have b0 : s'.val ≤ (i 0).val ∧ (i 0).val < s'.val + 1 := h' 0
  have a2 : 1024 * j.val ≤ (i 2).val ∧ (i 2).val < 1024 * j.val + 1024 := h 2
  have b2 : 1024 * j'.val ≤ (i 2).val ∧ (i 2).val < 1024 * j'.val + 1024 := h' 2
  exact hne (Prod.ext (Fin.ext (show s.val = s'.val by omega)) (Fin.ext (show j.val = j'.val by omega)))
theorem tF_cov : (Finset.univ : Finset (Fin 2 × Fin 4)).biUnion (fun p => (tF p).set) = Finset.univ := by
  ext i
  simp only [Finset.mem_biUnion, Finset.mem_univ, true_and, iff_true]
  have h0 : (i 0).val < 2 := (i 0).isLt
  have h1 : (i 1).val < 1024 := (i 1).isLt
  have h2 : (i 2).val < 4096 := (i 2).isLt
  refine ⟨(⟨(i 0).val, h0⟩, ⟨(i 2).val / 1024, by omega⟩), ?_⟩
  rw [Rect.mem_set_unit]
  intro a
  match a with
  | ⟨0, _⟩ => show (i 0).val ≤ (i 0).val ∧ (i 0).val < (i 0).val + 1; omega
  | ⟨1, _⟩ => show 0 ≤ (i 1).val ∧ (i 1).val < 0 + 1024; omega
  | ⟨2, _⟩ => show 1024 * ((i 2).val / 1024) ≤ (i 2).val ∧ (i 2).val < 1024 * ((i 2).val / 1024) + 1024; omega

theorem cF_disj : ∀ p p', p ≠ p' → Disjoint (cF p).set (cF p').set := by
  rintro ⟨s, j⟩ ⟨s', j'⟩ hne
  rw [Finset.disjoint_left]
  intro i h h'
  rw [Rect.mem_set_unit] at h h'
  have a : 4096 * s.val + 1024 * j.val ≤ (i 1).val ∧ (i 1).val < 4096 * s.val + 1024 * j.val + 1024 := h 1
  have b : 4096 * s'.val + 1024 * j'.val ≤ (i 1).val ∧ (i 1).val < 4096 * s'.val + 1024 * j'.val + 1024 := h' 1
  exact hne (Prod.ext (Fin.ext (show s.val = s'.val by omega)) (Fin.ext (show j.val = j'.val by omega)))
theorem cF_cov : (Finset.univ : Finset (Fin 2 × Fin 4)).biUnion (fun p => (cF p).set) = Finset.univ := by
  ext i
  simp only [Finset.mem_biUnion, Finset.mem_univ, true_and, iff_true]
  have h0 : (i 0).val < 1024 := (i 0).isLt
  have h1 : (i 1).val < 8192 := (i 1).isLt
  refine ⟨(⟨(i 1).val / 4096, by omega⟩, ⟨(i 1).val % 4096 / 1024, by omega⟩), ?_⟩
  rw [Rect.mem_set_unit]
  intro a
  match a with
  | ⟨0, _⟩ => show 0 ≤ (i 0).val ∧ (i 0).val < 0 + 1024; omega
  | ⟨1, _⟩ =>
    show 4096 * ((i 1).val / 4096) + 1024 * ((i 1).val % 4096 / 1024) ≤ (i 1).val
      ∧ (i 1).val < 4096 * ((i 1).val / 4096) + 1024 * ((i 1).val % 4096 / 1024) + 1024
    omega

theorem slot_disj : ∀ p p', p ≠ p' → Disjoint (slotR p).set (slotR p').set := by
  intro s s' hne
  rw [Finset.disjoint_left]
  intro i h h'
  rw [Rect.mem_set_unit] at h h'
  have a0 : s.val ≤ (i 0).val ∧ (i 0).val < s.val + 1 := h 0
  have b0 : s'.val ≤ (i 0).val ∧ (i 0).val < s'.val + 1 := h' 0
  exact hne (Fin.ext (by omega))
theorem slot_cov : (Finset.univ : Finset (Fin 2)).biUnion (fun p => (slotR p).set) = Finset.univ := by
  ext i
  simp only [Finset.mem_biUnion, Finset.mem_univ, true_and, iff_true]
  have h0 : (i 0).val < 2 := (i 0).isLt
  have h1 : (i 1).val < 1024 := (i 1).isLt
  have h2 : (i 2).val < 1024 := (i 2).isLt
  refine ⟨⟨(i 0).val, h0⟩, ?_⟩
  rw [Rect.mem_set_unit]
  intro a
  match a with
  | ⟨0, _⟩ => show (i 0).val ≤ (i 0).val ∧ (i 0).val < (i 0).val + 1; omega
  | ⟨1, _⟩ => show 0 ≤ (i 1).val ∧ (i 1).val < 0 + 1024; omega
  | ⟨2, _⟩ => show 0 ≤ (i 2).val ∧ (i 2).val < 0 + 1024; omega

/-- Four row chunks from where a device starts, in either addressing. -/
theorem row_disj (c : Dev nD) (off : Fin 4 → Fin 2 → ℕ) (ho : ∀ i, off i = ![1024 * ((c.val + i.val) % 4), 0])
    (inb : ∀ i, ∀ a, off i a + S1024x1024.size a ≤ S4096x1024.size a) :
    ∀ p p', p ≠ p' → Disjoint (Rect.unit (s := S4096x1024) (off p) S1024x1024.size (inb p)).set (Rect.unit (s := S4096x1024) (off p') S1024x1024.size (inb p')).set := by
  intro s s' hne
  rw [Finset.disjoint_left]
  intro i h h'
  rw [Rect.mem_set_unit, ho] at h h'
  have a0 : 1024 * ((c.val + s.val) % 4) ≤ (i 0).val ∧ (i 0).val < 1024 * ((c.val + s.val) % 4) + 1024 := h 0
  have b0 : 1024 * ((c.val + s'.val) % 4) ≤ (i 0).val ∧ (i 0).val < 1024 * ((c.val + s'.val) % 4) + 1024 := h' 0
  exact hne (Fin.ext (by omega))
theorem row_cov (c : Dev nD) (off : Fin 4 → Fin 2 → ℕ) (ho : ∀ i, off i = ![1024 * ((c.val + i.val) % 4), 0])
    (inb : ∀ i, ∀ a, off i a + S1024x1024.size a ≤ S4096x1024.size a) :
    (Finset.univ : Finset (Fin 4)).biUnion (fun p => (Rect.unit (s := S4096x1024) (off p) S1024x1024.size (inb p)).set) = Finset.univ := by
  ext i
  simp only [Finset.mem_biUnion, Finset.mem_univ, true_and, iff_true]
  have h0 : (i 0).val < 4096 := (i 0).isLt
  have h1 : (i 1).val < 1024 := (i 1).isLt
  have hc : c.val < 4 := c.isLt
  refine ⟨⟨((i 0).val / 1024 + 4 - c.val) % 4, Nat.mod_lt _ (by decide)⟩, ?_⟩
  rw [Rect.mem_set_unit, ho]
  intro a
  match a with
  | ⟨0, _⟩ =>
    show 1024 * ((c.val + ((i 0).val / 1024 + 4 - c.val) % 4) % 4) ≤ (i 0).val ∧ (i 0).val < 1024 * ((c.val + ((i 0).val / 1024 + 4 - c.val) % 4) % 4) + 1024
    omega
  | ⟨1, _⟩ => show 0 ≤ (i 1).val ∧ (i 1).val < 0 + 1024; omega

theorem xR_disj (c : Dev nD) : ∀ p p', p ≠ p' → Disjoint (xR c p).set (xR c p').set := row_disj c _ (fun i => k0_off1_eq c i) _
theorem xR_cov (c : Dev nD) : (Finset.univ : Finset (Fin 4)).biUnion (fun p => (xR c p).set) = Finset.univ := row_cov c _ (fun i => k0_off1_eq c i) _
theorem xbR_disj (c : Dev nD) : ∀ p p', p ≠ p' → Disjoint (xbR c p).set (xbR c p').set := row_disj c _ (fun i => k0_off2_eq c i) _
theorem xbR_cov (c : Dev nD) : (Finset.univ : Finset (Fin 4)).biUnion (fun p => (xbR c p).set) = Finset.univ := row_cov c _ (fun i => k0_off2_eq c i) _

/-! ## The kernel's buffers -/

variable (m : (ℓ : Loc nD τ sig) → Buf (Elt F) ℓ) (c : Dev nD)

theorem buf_split (r : Fin 2) :
    iprop(∃ X, ownsTc c (bufM r) fullShare X)
      ⊢ (iprop((bigSep Finset.univ fun j : Fin 4 => tileEx c r 0 j) ∗ bigSep Finset.univ fun j : Fin 4 => tileEx c r 1 j) : sProp 𝕄) := by
  refine (ex_split c (bufM r) tF (fun _ _ => rfl) tF_disj tF_cov).trans ?_
  rw [bigSep_univ_prod, sep_fin2]
  exact BI.sep_mono (bigSep_mono fun j _ => ex_squeeze c _ _) (bigSep_mono fun j _ => ex_squeeze c _ _)
theorem buf_join (r : Fin 2) :
    iprop((bigSep Finset.univ fun j : Fin 4 => tileEx c r 0 j) ∗ bigSep Finset.univ fun j : Fin 4 => tileEx c r 1 j)
      ⊢ (iprop(∃ X, ownsTc c (bufM r) fullShare X) : sProp 𝕄) := by
  refine BIBase.Entails.trans ?_ (ex_join c (bufM r) tF (fun _ _ => rfl) tF_disj tF_cov)
  rw [bigSep_univ_prod, sep_fin2]
  exact BI.sep_mono (bigSep_mono fun j _ => ex_unsqueeze c _ _) (bigSep_mono fun j _ => ex_unsqueeze c _ _)

theorem ws_split : iprop(∃ X, ownsTc c wsM fullShare X) ⊢ (iprop((∃ X, ownsTc c (wsT 0) fullShare X) ∗ ∃ X, ownsTc c (wsT 1) fullShare X) : sProp 𝕄) := by
  refine (ex_split c wsM slotR (fun _ _ => rfl) slot_disj slot_cov).trans ?_
  rw [sep_fin2]
  exact BI.sep_mono (ex_squeeze c _ _) (ex_squeeze c _ _)
theorem ws_join : iprop((∃ X, ownsTc c (wsT 0) fullShare X) ∗ ∃ X, ownsTc c (wsT 1) fullShare X) ⊢ (iprop(∃ X, ownsTc c wsM fullShare X) : sProp 𝕄) := by
  refine BIBase.Entails.trans ?_ (ex_join c wsM slotR (fun _ _ => rfl) slot_disj slot_cov)
  rw [sep_fin2]
  exact BI.sep_mono (ex_unsqueeze c _ _) (ex_unsqueeze c _ _)

theorem xb_split : iprop(∃ X, ownsTc c xbM fullShare X) ⊢ (bigSep Finset.univ fun i : Fin 4 => xbEx c i : sProp 𝕄) :=
  ex_split c xbM (xbR c) (fun _ _ => rfl) (xbR_disj c) (xbR_cov c)
theorem xb_join : (bigSep Finset.univ fun i : Fin 4 => xb m c i) ⊢ (iprop(∃ X, ownsTc c xbM fullShare X) : sProp 𝕄) :=
  BIBase.Entails.trans (bigSep_mono fun i _ => own_ex c _ _) (ex_join c xbM (xbR c) (fun _ _ => rfl) (xbR_disj c) (xbR_cov c))

theorem x_split : ownsTc c xA fullShare (xin m c) ⊢ (xRing m c : sProp 𝕄) :=
  owns_rects (c : Thread nD τ) xA fullShare (xR c) (fun _ _ => rfl) (xR_disj c) (xR_cov c) (xin m c)
theorem x_join : xRing m c ⊢ (ownsTc c xA fullShare (xin m c) : sProp 𝕄) :=
  owns_of_rects (c : Thread nD τ) xA fullShare (xR c) (fun _ _ => rfl) (xR_disj c) (xR_cov c) (xin m c)

theorem w_split : ownsTc c wA fullShare (win m c) ⊢ (iprop(wRing m c 0 ∗ wRing m c 1) : sProp 𝕄) := by
  refine (owns_rects (c : Thread nD τ) wA fullShare cF (fun _ _ => rfl) cF_disj cF_cov (win m c)).trans ?_
  rw [bigSep_univ_prod, sep_fin2]
  rfl
theorem w_join : iprop(wRing m c 0 ∗ wRing m c 1) ⊢ (ownsTc c wA fullShare (win m c) : sProp 𝕄) := by
  refine BIBase.Entails.trans ?_ (owns_of_rects (c : Thread nD τ) wA fullShare cF (fun _ _ => rfl) cF_disj cF_cov (win m c))
  rw [bigSep_univ_prod, sep_fin2]
  rfl

instance elt_nonempty (e : EltTy) : Nonempty (Elt F e) := inferInstance
instance flt_nonempty : Nonempty (F .bf16) := elt_nonempty (F := F) .bf16
/-- The result's contents at the end: `fin` on each column tile. -/
def outB : Vec F S1024x8192 .bf16 := glueV (α := F .bf16) cF fun p => fin m c p.1 p.2
theorem outB_emb (r : Fin 2) (j : Fin 4) (t : S1024x1024.Idx) : outB m c ((colR r j).emb t) = fin m c r j t :=
  glueV_emb cF cF_disj (fun p => fin m c p.1 p.2) (r, j) t

theorem o_split : iprop(∃ X, ownsTc c oA fullShare X)
    ⊢ (bigSep Finset.univ fun r : Fin 2 => bigSep Finset.univ fun j : Fin 4 => iprop(∃ X, ownsTc c (oT r j) fullShare X) : sProp 𝕄) := by
  refine (ex_split c oA cF (fun _ _ => rfl) cF_disj cF_cov).trans ?_
  rw [bigSep_univ_prod]
  exact Entails.of_eq rfl
theorem o_join : (bigSep Finset.univ fun r : Fin 2 => bigSep Finset.univ fun j : Fin 4 => ownsTc c (oT r j) fullShare (fin m c r j))
    ⊢ (ownsTc c oA fullShare (outB m c) : sProp 𝕄) := by
  refine BIBase.Entails.trans ?_ (val_join c oA cF (fun _ _ => rfl) cF_disj cF_cov fun p => fin m c p.1 p.2)
  rw [bigSep_univ_prod]

end Cert.KernelIdeal.Run

end
-- ==== Proof.KernelIdeal.Launch.lean ====
/-
The launch: every device's cells opened at once, the duty tokens dealt to the devices that pay them, and
the credits the devices owe one another.
-/
module

public import proofs.«01_k».proof.Proof.KernelIdeal.Split

@[expose] public section

set_option maxRecDepth 65536

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-- A ring cell's index: (send, receive, credit), ring, hop, tile. -/
abbrev RIx : Type := Fin 3 × Fin 2 × Fin 3 × Fin 4

theorem sep_cix (Φ : CIx → sProp 𝕄) : bigSep Finset.univ Φ = iprop(Φ none ∗ bigSep Finset.univ fun x : RIx => Φ (some x)) := by
  rw [bigSep_univ_equiv (Equiv.optionEquivSumPUnit RIx).symm Φ, bigSep_univ_sum,
    show (fun b : PUnit.{1} => Φ ((Equiv.optionEquivSumPUnit RIx).symm (.inr b))) = fun _ : PUnit.{1} => Φ none from rfl,
    bigSep_univ_eq_bigSepL [PUnit.unit.{1}] (by decide) (by decide) (fun _ : PUnit.{1} => Φ none)]
  exact BI.Entails.antisymm (show _ ⊢ iprop(Φ none ∗ bigSep Finset.univ fun x : RIx => Φ (some x)) from BI.sep_comm) (show iprop(Φ none ∗ bigSep Finset.univ fun x : RIx => Φ (some x)) ⊢ _ from BI.sep_comm)

/-! ## The semaphores -/

/-- The kernel's own semaphores: the rings' cells, and those of the local copies. -/
abbrev OIx : Type := RIx ⊕ (Fin 2 ⊕ (Fin 1 ⊕ (Fin 2 × Fin 4)))
def osem : OIx → SemLoc sig
  | .inl x => enc (some x)
  | .inr (.inl r) => .dma (wS r)
  | .inr (.inr (.inl _)) => .dma xS
  | .inr (.inr (.inr p)) => .dma (outS p.1 p.2)

theorem osem_scoped : ∀ k, (osem k).isScoped .tc = true := by decide +kernel
theorem osem_inj : Function.Injective osem := by decide +kernel
theorem ownSemFacts : Pipeline.OwnSemFacts cfg0.spec osem := ⟨osem_scoped, osem_inj, fun _ w => w.elim0⟩

/-- The counters of the local copies, at zero. -/
def locals (c : Dev nD) : sProp 𝕄 :=
  iprop((semVal ((c : Thread nD τ), SemLoc.dma (wS 0)) 0 ∗ semVal ((c : Thread nD τ), SemLoc.dma (wS 1)) 0) ∗ semVal ((c : Thread nD τ), SemLoc.dma xS) 0
    ∗ bigSep Finset.univ fun r : Fin 2 => bigSep Finset.univ fun j : Fin 4 => semVal ((c : Thread nD τ), SemLoc.dma (outS r j)) 0)

theorem ownSems0_eq (c : Dev nD) :
    (Pipeline.ownSems0 (Ix := Unit) (Name := ℕ) (U := UU) (Lvl := ℕ) (Val := Elt F) (τ := τ) osem c : sProp 𝕄)
      = iprop((bigSep Finset.univ fun x : RIx => semVal (cell c (some x)) 0) ∗ locals c) := by
  unfold Pipeline.ownSems0 locals
  rw [bigSep_univ_sum, bigSep_univ_sum, bigSep_univ_sum, bigSep_univ_prod (fun p : Fin 2 × Fin 4 => semVal ((c : Thread nD τ), osem (.inr (.inr (.inr p)))) 0), sep_fin2 (F := F) (fun r => semVal ((c : Thread nD τ), osem (.inr (.inl r))) 0),
    bigSep_univ_eq_bigSepL [0] (by decide) (by decide) (fun b : Fin 1 => semVal ((c : Thread nD τ), osem (.inr (.inr (.inl b)))) 0)]
  rfl
theorem unscopedSems0_eq (c : Dev nD) : (unscopedSems0 c : sProp 𝕄) = semVal (cell c none) 0 := by
  unfold unscopedSems0; rw [bigSep_eq_bigSepL_of_eq [SemLoc.reg barS] (by decide +kernel) (by decide)]; rfl

/-! ## The cells and their tokens -/

theorem cell_injective : Function.Injective (fun p : Dev nD × CIx => cell p.1 p.2) := by
  rintro ⟨c, x⟩ ⟨c', x'⟩ h
  have h1 : c = c' := congrArg (fun g : GSem nD τ sig => g.1.1) h
  have h2 : x = x' := enc_injective (congrArg Prod.snd h)
  rw [h1, h2]
def cells : Finset (GSem nD τ sig) := Finset.univ.map ⟨_, cell_injective⟩

/-- Which tokens a device's cells have: the barrier's, one to each ring, and one to each other cell. -/
abbrev TIx : Type := Fin 2 ⊕ RIx
def tokOf (p : Dev nD × TIx) : GSem nD τ sig × ℕ × Fin 2 := match p.2 with
  | .inl r => (cell p.1 none, 0, r)
  | .inr x => (cell p.1 (some x), 0, 0)
theorem tokOf_injective : Function.Injective tokOf := by
  rintro ⟨c, x⟩ ⟨c', x'⟩ h
  have h1 : c = c' := by
    have := congrArg (fun y : GSem nD τ sig × ℕ × Fin 2 => y.1.1.1) h
    rcases x with x | x <;> rcases x' with x' | x' <;> exact this
  have h2 := congrArg (fun y : GSem nD τ sig × ℕ × Fin 2 => dec y.1.2) h
  have h3 := congrArg (fun y : GSem nD τ sig × ℕ × Fin 2 => y.2.2) h
  subst h1
  rcases x with x | x <;> rcases x' with x' | x' <;> simp only [tokOf, dec_enc] at h2 h3
  · rw [h3]
  · cases h2
  · cases h2
  · cases h2; rfl
def tokens : Finset (GSem nD τ sig × ℕ × Fin 2) := Finset.univ.map ⟨tokOf, tokOf_injective⟩

def toks (c : Dev nD) : sProp 𝕄 :=
  iprop((bigSep Finset.univ fun r : Fin 2 => dutyTok ER (cell c none) 0 r) ∗ bigSep Finset.univ fun x : RIx => dutyTok ER (cell c (some x)) 0 (0 : Fin 2))

/-- The device whose cell `x` device `c` pays. -/
def tgtE : RIx → (Dev nD ≃ Dev nD)
  | (0, _) => Equiv.refl _
  | (1, r, _) => ringE r
  | (2, r, _) => (ringE r).symm
/-- The tokens of the duties `c` pays. -/
def payToks (c : Dev nD) : sProp 𝕄 :=
  iprop((dutyTok ER (cell (up 0 c) none) 0 (0 : Fin 2) ∗ dutyTok ER (cell (up 1 c) none) 0 (1 : Fin 2))
    ∗ bigSep Finset.univ fun x : RIx => dutyTok ER (cell (tgtE x c) (some x)) 0 (0 : Fin 2))

theorem toks_around : (bigSep Finset.univ fun c : Dev nD => (toks c : sProp 𝕄)) ⊢ bigSep Finset.univ fun c : Dev nD => payToks c := by
  unfold toks payToks
  simp only [sep_fin2 (F := F)]
  rw [bigSep_sep', bigSep_sep', bigSep_sep', bigSep_sep',
    bigSep_univ_equiv (ringE 0).symm (fun c : Dev nD => (dutyTok ER (cell c none) 0 (0 : Fin 2) : sProp 𝕄)),
    bigSep_univ_equiv (ringE 1).symm (fun c : Dev nD => (dutyTok ER (cell c none) 0 (1 : Fin 2) : sProp 𝕄)),
    bigSep_univ_comm (fun (c : Dev nD) (x : RIx) => (dutyTok ER (cell c (some x)) 0 (0 : Fin 2) : sProp 𝕄)),
    bigSep_univ_comm (fun (c : Dev nD) (x : RIx) => (dutyTok ER (cell (tgtE x c) (some x)) 0 (0 : Fin 2) : sProp 𝕄)),
    bigSep_congr (s := Finset.univ) fun (x : RIx) _ => bigSep_univ_equiv (tgtE x) (fun c : Dev nD => (dutyTok ER (cell c (some x)) 0 (0 : Fin 2) : sProp 𝕄))]
  exact Entails.of_eq rfl

def u₀ : UU :=
  (initOf (Pipeline.cells cfgs cellOf_inj) (Pipeline.launchToks cfgs cellOf_inj), (initOf cells tokens, 1))

/-- What the launch deals device `c`, -/
def G (c : Dev nD) : sProp 𝕄 :=
  iprop((bigSep Finset.univ fun x : CIx => roundState ER (sched m) (cell c x) 0)
    ∗ (bigSep Finset.univ fun x : CIx => iprop(atPos ER (cell c x) 0 ∅ 0 ∗ reached ER (cell c x) 0)) ∗ toks c)
/-- what all devices then know, -/
def recs : sProp 𝕄 :=
  iprop((bigSep Finset.univ fun p : Dev nD × CIx => cellInv ER (sched m) (K p) (cell p.1 p.2))
    ∗ bigSep Finset.univ fun p : Dev nD × CIx => reached ER (cell p.1 p.2) 0)
instance recs_persistent : BI.Persistent (recs m K) := by unfold recs; infer_instance
/-- and what each one holds. -/
def G' (c : Dev nD) : sProp 𝕄 :=
  iprop(∃ K, recs m K ∗ (bigSep Finset.univ fun x : CIx => atPos ER (cell c x) 0 ∅ 0) ∗ payToks c ∗ locals c)

theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun x : CIx => Φ (cell c x) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_sum]; rfl
  iintro HX
  imod (Rounds.fund ER (sched m) cells tokens) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CIx => iprop(∃ κ : ℕ, cellInv ER (sched m) κ (cell c x)))
          ∗ (bigSep Finset.univ fun x : CIx => iprop(atPos ER (cell c x) 0 ∅ 0 ∗ reached ER (cell c x) 0)) ∗ toks c ∗ locals c) := by
  unfold G
  rw [ownSems0_eq, unscopedSems0_eq]
  iintro ⟨⟨Hos, Hl⟩, Hus, Hst, Hat, Htok⟩
  ihave Hv := (Entails.of_eq (sep_cix (F := F) fun x => semVal (cell c x) 0).symm) $$ [Hos Hus]
  · isplitl [Hus] <;> iassumption
  imod (show iprop((bigSep Finset.univ fun x : CIx => semVal (cell c x) 0) ∗ bigSep Finset.univ fun x : CIx => roundState ER (sched m) (cell c x) 0)
      ⊢ (|={Set.univ}=> bigSep Finset.univ fun x : CIx => iprop(∃ κ : ℕ, cellInv ER (sched m) κ (cell c x)) : sProp 𝕄) from by
        rw [← bigSep_sep']
        exact (bigSep_mono fun x _ => (Rounds.body_intro ER (sched m) (cell c x)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem share_out {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CIx => iprop(∃ κ : ℕ, cellInv ER (sched m) κ (cell c x)))
          ∗ (bigSep Finset.univ fun x : CIx => iprop(atPos ER (cell c x) 0 ∅ 0 ∗ reached ER (cell c x) 0)) ∗ toks c ∗ locals c) : sProp 𝕄)
      ⊢ bigSep Finset.univ (G' m) := by
  rw [bigSep_sep', bigSep_sep', bigSep_sep', ← bigSep_univ_prod (fun p : Dev nD × CIx => iprop(∃ κ : ℕ, cellInv ER (sched m) κ (cell p.1 p.2))),
    bigSep_congr (s := Finset.univ) (fun (c : Dev nD) _ => bigSep_sep' Finset.univ (fun x : CIx => (atPos ER (cell c x) 0 ∅ 0 : sProp 𝕄)) (fun x => reached ER (cell c x) 0)),
    bigSep_sep', ← bigSep_univ_prod (fun p : Dev nD × CIx => (reached ER (cell p.1 p.2) 0 : sProp 𝕄))]
  iintro ⟨HI, ⟨Hat, #HR⟩, Htok, Hl⟩
  ihave HK := (BI.bigSep_exists_pi Finset.univ (fun (p : Dev nD × CIx) (κ : ℕ) => (cellInv ER (sched m) κ (cell p.1 p.2) : sProp 𝕄))) $$ HI
  icases HK with ⟨%K, #HI⟩
  ihave Htk := (toks_around (F := F)) $$ Htok
  iapply (share_out (R := recs m K) (Φ := fun c => iprop((bigSep Finset.univ fun x : CIx => atPos ER (cell c x) 0 ∅ 0) ∗ payToks c ∗ locals c))
    (fun c _ => show iprop(recs m K ∗ (bigSep Finset.univ fun x : CIx => atPos ER (cell c x) 0 ∅ 0) ∗ payToks c ∗ locals c) ⊢ G' m c from by
      unfold G'; iintro H; iexists K; iexact H))
  isplitr
  · unfold recs; isplitl; · iexact HI
    iexact HR
  · rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- How many devices owe cell `x` of a device. -/
def cnt (x : CIx) : ℕ := (dues.map dueIx).count x

theorem dueDev_bij (y : Due) (c : Dev nD) : ∃ e : Dev nD, ∀ d, c = dueDev d y ↔ d = e := by
  cases y with
  | bar r => exact ⟨dn r c, fun d => ⟨fun h => by rw [h]; exact (dn_up r d).symm, fun h => by rw [h]; exact (up_dn r c).symm⟩⟩
  | rcv r _ _ => exact ⟨up r c, fun d => ⟨fun h => by rw [h]; exact (up_dn r d).symm, fun h => by rw [h]; exact (dn_up r c).symm⟩⟩
  | crd r _ _ => exact ⟨dn r c, fun d => ⟨fun h => by rw [h]; exact (dn_up r d).symm, fun h => by rw [h]; exact (up_dn r c).symm⟩⟩

theorem cell_eq_iff {a b : Dev nD} {x y : CIx} : cell a x = cell b y ↔ a = b ∧ x = y :=
  ⟨fun h => Prod.mk.inj (cell_injective (a₁ := (a, x)) (a₂ := (b, y)) h), fun ⟨h1, h2⟩ => by rw [h1, h2]⟩

theorem owed_sum (c : Dev nD) (x : CIx) (l : List Due) : ∑ d : Dev nD, oblig d l (cell c x) () = (l.map dueIx).count x * amt x := by
  induction l with
  | nil => simp [oblig]
  | cons y l ih =>
    have e : ∀ d : Dev nD, oblig d (y :: l) (cell c x) () = oblig d l (cell c x) () + if c = dueDev d y ∧ x = dueIx y then dueAmt y else 0 := by
      intro d
      show (oblig d l + tallyAt (dueCell d y) () (dueAmt y)) (cell c x) () = _
      rw [Pi.add_apply, Finsupp.add_apply, tallyAt_apply]
      congr 1
      by_cases h : c = dueDev d y ∧ x = dueIx y
      · rw [if_pos h, if_pos ⟨cell_eq_iff.mpr h, rfl⟩]
      · rw [if_neg h, if_neg fun h' => h (cell_eq_iff.mp h'.1)]
    rw [Finset.sum_congr rfl fun d _ => e d, Finset.sum_add_distrib, ih, List.map_cons, List.count_cons, Nat.add_mul]
    congr 1
    by_cases h : x = dueIx y
    · obtain ⟨e, he⟩ := dueDev_bij y c
      rw [Finset.sum_congr rfl fun d _ => if_congr ((and_iff_left h).trans (he d)) rfl rfl, Finset.sum_ite_eq' Finset.univ e fun _ => dueAmt y, if_pos (Finset.mem_univ _)]
      subst h
      simp [dueAmt]
    · rw [Finset.sum_congr rfl fun d _ => if_neg fun h' => h h'.2]
      simp [Ne.symm h]

theorem launch_cell (c : Dev nD) (x : CIx) :
    tallyOn (cell c x) (launchCredit (Pipeline.owing O₀) 0 (cell c x)) = (tallyAt (cell c x) () (cnt x * amt x) : CellTallies nD τ sig Unit) := by
  unfold tallyAt; refine congrArg _ (Finsupp.ext fun u => ?_); cases u
  rw [Pipeline.launchCredit_owing, Finsupp.single_eq_same]
  exact owed_sum c x dues

theorem creds (c : Dev nD) :
    (Pipeline.launchCred O₀ c : sProp 𝕄) ⊢ bigSep Finset.univ fun x : CIx => cred (tallyAt (cell c x) () (cnt x * amt x)) := by
  unfold Pipeline.launchCred
  refine (bigSep_subset (Finset.subset_univ ((Finset.univ : Finset CIx).map ⟨enc, enc_injective⟩))).trans ?_
  rw [bigSep_map]
  exact Entails.of_eq (bigSep_congr fun x _ => congrArg cred (launch_cell c x))

end Cert.KernelIdeal.Run

end
-- ==== Proof.KernelIdeal.Run.lean ====
/-
The run: from any memory with zero counters the mesh terminates, with every argument as it was, every
counter at zero, and the result read off `outB`.
-/
module

public import proofs.«01_k».proof.Proof.KernelIdeal.Launch
public import Idealize.ShloMosaic.Lib.Pipeline.CollectiveSegs
public import Idealize.ShloMosaic.Lib.Quiescent

@[expose] public section

set_option maxRecDepth 65536

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ)

/-! ## The cells' holdings, tile by tile -/

def nine : ((Fin 2 × Fin 4) × (Fin 3 × Fin 3)) ≃ RIx where
  toFun p := (p.2.1, p.1.1, p.2.2, p.1.2)
  invFun x := ((x.2.1, x.2.2.2), (x.1, x.2.2.1))
  left_inv _ := rfl
  right_inv _ := rfl
/-- A tile's nine cells: three hops' sends, receives and credits. -/
def tile9 (Φ : RIx → sProp 𝕄) (r : Fin 2) (j : Fin 4) : sProp 𝕄 :=
  iprop(Φ (0, r, 0, j) ∗ Φ (0, r, 1, j) ∗ Φ (0, r, 2, j) ∗ Φ (1, r, 0, j) ∗ Φ (1, r, 1, j) ∗ Φ (1, r, 2, j) ∗ Φ (2, r, 0, j) ∗ Φ (2, r, 1, j) ∗ Φ (2, r, 2, j))
/-- Over both rings' four tiles. -/
abbrev bb (Φ : Fin 2 → Fin 4 → sProp 𝕄) : sProp 𝕄 := bigSep Finset.univ fun r : Fin 2 => bigSep Finset.univ fun j : Fin 4 => Φ r j
theorem sep_tiles (Φ : RIx → sProp 𝕄) : bigSep Finset.univ Φ = bb (tile9 Φ) := by
  rw [bigSep_univ_equiv nine Φ, bigSep_univ_prod, bigSep_univ_prod]
  refine bigSep_congr fun r _ => bigSep_congr fun j _ => ?_
  rw [bigSep_univ_eq_bigSepL [(0, 0), (0, 1), (0, 2), (1, 0), (1, 1), (1, 2), (2, 0), (2, 1), (2, 2)] (by decide) (by decide)]
  rfl
theorem bb_mono {Φ Ψ : Fin 2 → Fin 4 → sProp (MT nD τ sig Unit (Elt F) ℕ UU ℕ)} (h : ∀ r j, Φ r j ⊢ Ψ r j) : bb Φ ⊢ bb Ψ :=
  bigSep_mono fun r _ => bigSep_mono fun j _ => h r j

theorem cnt_rcv : ∀ r h j, cnt (some (1, r, h, j)) = 1 := by decide +kernel
theorem cnt_crd1 : ∀ r j, cnt (some (2, r, 1, j)) = 1 := by decide +kernel
theorem cnt_crd2 : ∀ r j, cnt (some (2, r, 2, j)) = 1 := by decide +kernel
theorem cnt_bar : cnt none = 2 := by decide +kernel

section Tiles
variable (c : Dev nD)

abbrev atC (x : RIx) : sProp 𝕄 := atPos ER (cell c (some x)) 0 ∅ 0
abbrev crC (x : RIx) : sProp 𝕄 := cred (tallyAt (cell c (some x)) () (cnt (some x) * amt (some x)))
abbrev tkC (x : RIx) : sProp 𝕄 := dutyTok ER (cell (tgtE x c) (some x)) 0 (0 : Fin 2)
abbrev zC (x : RIx) : sProp 𝕄 := semVal (cell c (some x)) 0
abbrev oEx (r : Fin 2) (j : Fin 4) : sProp 𝕄 := iprop(∃ X, ownsTc c (oT r j) fullShare X)
abbrev oZ (r : Fin 2) (j : Fin 4) : sProp 𝕄 := semVal ((c : Thread nD τ), SemLoc.dma (outS r j)) 0

theorem pre_tile (r : Fin 2) (j : Fin 4) :
    iprop(tileEx c r 0 j ∗ oEx c r j ∗ oZ c r j ∗ tile9 (atC c) r j ∗ tile9 (crC c) r j ∗ tile9 (tkC c) r j)
      ⊢ (iprop(T0 c r j ∗ atC c (2, r, 0, j)) : sProp 𝕄) := by
  unfold tile9 T0 mid hopW hopS hopC out0 crC
  rw [cnt_rcv, cnt_rcv, cnt_rcv, cnt_crd1, cnt_crd2, Nat.one_mul, Nat.one_mul, Nat.one_mul, Nat.one_mul, Nat.one_mul]
  iintro ⟨Hb, Ho, Hz, ⟨A00, A01, A02, A10, A11, A12, A20, A21, A22⟩, ⟨-, -, -, C10, C11, C12, -, C21, C22⟩, ⟨T00, T01, T02, T10, T11, T12, -, T21, T22⟩⟩
  isplitr [A20]
  · isplitl [Hb]; · iexact Hb
    isplitl [T00 T10]; · isplitl [T00]; · iexact T00
                         iexact T10
    isplitl [A10 C10 A00 T21 A21 C21 T01 T11]
    · isplitl [A10 C10 A00]
      · isplitl [A10]; · iexact A10
        isplitl [C10]; · iexact C10
        iexact A00
      isplitl [T21 A21 C21]
      · isplitl [T21]; · iexact T21
        isplitl [A21]; · iexact A21
        iexact C21
      isplitl [T01]; · iexact T01
      iexact T11
    isplitl [A11 C11 A01 T22 A22 C22 T02 T12]
    · isplitl [A11 C11 A01]
      · isplitl [A11]; · iexact A11
        isplitl [C11]; · iexact C11
        iexact A01
      isplitl [T22 A22 C22]
      · isplitl [T22]; · iexact T22
        isplitl [A22]; · iexact A22
        iexact C22
      isplitl [T02]; · iexact T02
      iexact T12
    isplitl [A12 C12 A02]
    · isplitl [A12]; · iexact A12
      isplitl [C12]; · iexact C12
      iexact A02
    isplitl [Ho]; · iexact Ho
    iexact Hz
  iexact A20

theorem post_tile (r : Fin 2) (j : Fin 4) :
    iprop(T5 m c r j ∗ zC c (2, r, 0, j))
      ⊢ (iprop(ownsTc c (oT r j) fullShare (fin m c r j) ∗ oZ c r j ∗ tileEx c r 0 j ∗ tileEx c r 1 j ∗ tile9 (zC c) r j) : sProp 𝕄) := by
  unfold tile9 T5 zer zerC
  iintro ⟨⟨Ho, Hz, B0, B1, ⟨Z00, Z10⟩, Z21, ⟨Z01, Z11⟩, Z22, ⟨Z02, Z12⟩⟩, Z20⟩
  isplitl [Ho]; · iexact Ho
  isplitl [Hz]; · iexact Hz
  isplitl [B0]; · iexact B0
  isplitl [B1]; · iexact B1
  isplitl [Z00]; · iexact Z00
  isplitl [Z01]; · iexact Z01
  isplitl [Z02]; · iexact Z02
  isplitl [Z10]; · iexact Z10
  isplitl [Z11]; · iexact Z11
  isplitl [Z12]; · iexact Z12
  isplitl [Z20]; · iexact Z20
  isplitl [Z21]; · iexact Z21
  iexact Z22

theorem pre_tiles :
    iprop(bb (fun r j => tileEx c r 0 j) ∗ bb (oEx c) ∗ bb (oZ c) ∗ bb (tile9 (atC c)) ∗ bb (tile9 (crC c)) ∗ bb (tile9 (tkC c)))
      ⊢ (iprop(bb (T0 c) ∗ bb (fun r j => atC c (2, r, 0, j))) : sProp 𝕄) := by
  have h := bb_mono (F := F) (pre_tile c)
  simp only [bb, bigSep_sep'] at h ⊢
  exact h
theorem post_tiles :
    iprop(bb (T5 m c) ∗ bb (fun r j => zC c (2, r, 0, j)))
      ⊢ (iprop(bb (fun r j => ownsTc c (oT r j) fullShare (fin m c r j)) ∗ bb (oZ c) ∗ bb (fun r j => tileEx c r 0 j) ∗ bb (fun r j => tileEx c r 1 j)
          ∗ bb (tile9 (zC c))) : sProp 𝕄) := by
  have h := bb_mono (F := F) (post_tile m c)
  simp only [bb, bigSep_sep'] at h ⊢
  exact h

theorem close_crd : iprop(ctx m K ∗ bb (fun r j => atC c (2, r, 0, j))) ⊢ (iprop(|={Set.univ}=> bb (fun r j => zC c (2, r, 0, j))) : sProp 𝕄) := by
  have h1 : ∀ r : Fin 2, iprop(ctx m K ∗ bigSep Finset.univ fun j : Fin 4 => atC c (2, r, 0, j)) ⊢ (iprop(|={Set.univ}=> bigSep Finset.univ fun j : Fin 4 => zC c (2, r, 0, j)) : sProp 𝕄) :=
    fun r => (share_out (R := ctx m K) fun j _ => close_idle m K c (some (2, r, 0, j)) rfl).trans (bigSep_fupd _ _)
  exact (share_out (R := ctx m K) fun r _ => h1 r).trans (bigSep_fupd _ _)

/-! ## The body's obligation -/

/-- The arguments and the result as launched, -/
def argsPre : sProp 𝕄 := iprop(ownsTc c xA fullShare (xin m c) ∗ ownsTc c wA fullShare (win m c) ∗ ∃ X, ownsTc c oA fullShare X)
/-- and at the end. -/
def argsPost : sProp 𝕄 := iprop(ownsTc c xA fullShare (xin m c) ∗ ownsTc c wA fullShare (win m c) ∗ ownsTc c oA fullShare (outB m c))
/-- The kernel's own buffers, at any contents. -/
def scr : sProp 𝕄 :=
  iprop((∃ X, ownsTc c (bufM 0) fullShare X) ∗ (∃ X, ownsTc c (bufM 1) fullShare X) ∗ (∃ X, ownsTc c xbM fullShare X) ∗ (∃ X, ownsTc c xsM fullShare X) ∗ ∃ X, ownsTc c wsM fullShare X)
def start : sProp 𝕄 :=
  iprop(argsPre m c ∗ levAts L lv ∗ (bigSep Finset.univ fun x : CIx => cred (tallyAt (cell c x) () (cnt x * amt x))) ∗ G' m c)
def Φ₀ : sProp 𝕄 := iprop(start m c ∗ scr c)
def Φ₁ : sProp 𝕄 := iprop((semVal (cell c none) 0 ∗ argsPost m c) ∗ ((bigSep Finset.univ fun x : RIx => zC c x) ∗ locals c) ∗ scr c)

set_option maxHeartbeats 1000000 in
/-- From what a device starts with, the body's own start. -/
theorem pre_intro : iprop(Φ₀ m c ∗ owesE c dues) ⊢ (iprop(∃ K, ctx m K ∗ bodyPre m c ∗ bb (fun r j => atC c (2, r, 0, j))) : sProp 𝕄) := by
  unfold Φ₀ start argsPre scr G' payToks locals bodyPre bar0 recs ctx wIdle xIdle
  rw [sep_cix, sep_cix, cnt_bar, sep_tiles, sep_tiles, sep_tiles]
  iintro ⟨⟨⟨⟨Hx, Hw, Ho⟩, #Hlev, ⟨Cb, Cr⟩, ⟨%K, ⟨#HI, #HR⟩, ⟨Ab, At⟩, ⟨⟨Tb0, Tb1⟩, Tk⟩, ⟨Zw0, Zw1⟩, Zx, Zo⟩⟩, B0, B1, Xb, Xs, Ws⟩, HO⟩
  ihave Hx := (x_split m c) $$ Hx
  ihave Hw := (w_split m c) $$ Hw
  icases Hw with ⟨Hw0, Hw1⟩
  ihave Ho := (o_split c) $$ Ho
  ihave B0 := (buf_split c 0) $$ B0
  icases B0 with ⟨B00, B01⟩
  ihave B1 := (buf_split c 1) $$ B1
  icases B1 with ⟨B10, B11⟩
  ihave Xb := (xb_split c) $$ Xb
  ihave Ws := (ws_split c) $$ Ws
  icases Ws with ⟨Ws0, Ws1⟩
  ihave HT := (pre_tiles c) $$ [B00 B10 Ho Zo At Cr Tk]
  · isplitl [B00 B10]
    · iapply (Entails.of_eq (sep_fin2 (F := F) fun r => bigSep Finset.univ fun j : Fin 4 => tileEx c r 0 j).symm)
      isplitl [B00] <;> iassumption
    isplitl [Ho]; · iexact Ho
    isplitl [Zo]; · iexact Zo
    isplitl [At]; · iexact At
    isplitl [Cr]; · iexact Cr
    iexact Tk
  icases HT with ⟨HT, HA⟩
  iexists K
  isplitr
  · isplitr; · iexact HI
    isplitr; · iexact HR
    iexact Hlev
  isplitr [HA]
  swap; · iexact HA
  isplitl [Tb0 Tb1 Ab Cb]
  · isplitl [Tb0]; · iexact Tb0
    isplitl [Tb1]; · iexact Tb1
    isplitl [Ab]; · iexact Ab
    iexact Cb
  isplitl [Hw0 Hw1 Ws0 Ws1 Zw0 Zw1]
  · isplitl [Hw0 Ws0 Zw0]
    · isplitl [Hw0]; · iexact Hw0
      isplitl [Ws0] <;> iassumption
    · isplitl [Hw1]; · iexact Hw1
      isplitl [Ws1] <;> iassumption
  isplitl [Hx Xs Zx]
  · isplitl [Hx]; · iexact Hx
    isplitl [Xs] <;> iassumption
  isplitl [Xb]; · iexact Xb
  isplitl [B01 B11]
  · iapply (Entails.of_eq (sep_fin2 (F := F) fun r => bigSep Finset.univ fun j : Fin 4 => tileEx c r 1 j).symm)
    isplitl [B01] <;> iassumption
  isplitl [HT]; · iexact HT
  iexact HO

set_option maxHeartbeats 1000000 in
/-- From the body's end, what a device ends with. -/
theorem post_elim : iprop(bodyPost m c ∗ bb (fun r j => zC c (2, r, 0, j))) ⊢ (iprop(Φ₁ m c ∗ owesE c []) : sProp 𝕄) := by
  unfold Φ₁ bodyPost wIdle xIdle scr argsPost locals
  rw [sep_tiles]
  iintro ⟨⟨Zb, ⟨⟨Hw0, Ws0, Zw0⟩, ⟨Hw1, Ws1, Zw1⟩⟩, ⟨Hx, Xs, Zx⟩, Xb, HT, HO⟩, HZ⟩
  ihave HT := (post_tiles m c) $$ [HT HZ]
  · isplitl [HT] <;> iassumption
  icases HT with ⟨Ho, Zo, B0, B1, HZ⟩
  ihave B0 := (Entails.of_eq (sep_fin2 (F := F) fun r => bigSep Finset.univ fun j : Fin 4 => tileEx c r 0 j)) $$ B0
  icases B0 with ⟨B00, B10⟩
  ihave B1 := (Entails.of_eq (sep_fin2 (F := F) fun r => bigSep Finset.univ fun j : Fin 4 => tileEx c r 1 j)) $$ B1
  icases B1 with ⟨B01, B11⟩
  isplitr [HO]
  swap; · iexact HO
  isplitl [Zb Hx Hw0 Hw1 Ho]
  · isplitl [Zb]; · iexact Zb
    isplitl [Hx]; · iapply (x_join m c); iexact Hx
    isplitl [Hw0 Hw1]
    · iapply (w_join m c); isplitl [Hw0] <;> iassumption
    iapply (o_join m c); iexact Ho
  isplitl [HZ Zw0 Zw1 Zx Zo]
  · isplitl [HZ]; · iexact HZ
    isplitl [Zw0 Zw1]
    · isplitl [Zw0] <;> iassumption
    isplitl [Zx] <;> iassumption
  isplitl [B00 B01]
  · iapply (buf_join c 0); isplitl [B00] <;> iassumption
  isplitl [B10 B11]
  · iapply (buf_join c 1); isplitl [B10] <;> iassumption
  isplitl [Xb]; · iapply (xb_join m c); iexact Xb
  isplitl [Xs]; · iexact Xs
  iapply (ws_join c); isplitl [Ws0] <;> iassumption

end Tiles

def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem body_wp (c : Dev nD) :
    iprop(Φ₀ m c ∗ (dats m ρ 0 c).owesAt () (t0_0 : Fin cfg0.N).castSucc)
      ⊢ W c (prog (F := F)) fun _ => iprop(Φ₁ m c ∗ (dats m ρ 0 c).owesAt () (t0_0 : Fin cfg0.N).succ) := by
  unfold Dat.owesAt Pipeline.owesWithin
  rw [show (dats m ρ 0 c).owed (t0_0 : Fin cfg0.N).castSucc = oblig c dues from rfl, show (dats m ρ 0 c).owed (t0_0 : Fin cfg0.N).succ = oblig c [] from rfl]
  iintro ⟨H0, ⟨%Ws, -, HO⟩⟩
  ihave H := (pre_intro m c) $$ [H0 HO]
  · isplitl [H0]; · iexact H0
    unfold owesE; iexists Ws; iexact HO
  icases H with ⟨%K, #Hc, Hb, HA⟩
  unfold W
  imod (close_crd m K c) $$ [HA] with HZ
  · isplitr; · iexact Hc
    iexact HA
  iapply (body_run m K c) $$ [Hb]
  · isplitr; · iexact Hc
    iexact Hb
  iintro Hb
  ihave H := (post_elim m c) $$ [Hb HZ]
  · isplitl [Hb] <;> iassumption
  unfold owesE
  icases H with ⟨H1, ⟨%Ws', HO⟩⟩
  isplitl [H1]; · iexact H1
  iexists Ws'
  isplitr; · ipureintro; exact fun _ _ => Or.inl trivial
  iexact HO

theorem body_obligation (c : Dev nD) : BodyObligation (dats (F := F) m ρ 0 c) (defs₀ (F := F)) 𝒱₀ () Set.univ := fun t => by
  have ht : t = (t0_0 : Fin cfg0.N) := fin_N0 t
  rw [ht]
  have he (Φ : Fin cfg0.W → sProp 𝕄) : bigSep Finset.univ Φ = iprop(emp) := by
    rw [show (Finset.univ : Finset (Fin cfg0.W)) = ∅ from rfl, BI.bigSep_empty]; rfl
  rw [he, he]
  show iprop(Φ₀ m c ∗ (dats m ρ 0 c).owesAt () (t0_0 : Fin cfg0.N).castSucc ∗ emp)
    ⊢ W c (bodyAt0 (F := F) t0_0) fun _ => iprop(Φ₁ m c ∗ (dats m ρ 0 c).owesAt () (t0_0 : Fin cfg0.N).succ ∗ emp)
  rw [body_eq]
  iintro ⟨H0, HO, -⟩
  have hw : W c (prog (F := F)) (fun _ => iprop(Φ₁ m c ∗ (dats m ρ 0 c).owesAt () (t0_0 : Fin cfg0.N).succ))
      ⊢ W c (prog (F := F)) (fun _ => iprop(Φ₁ m c ∗ (dats m ρ 0 c).owesAt () (t0_0 : Fin cfg0.N).succ ∗ emp)) :=
    wp_mono _ _ _ fun _ => by
      show iprop(Φ₁ m c ∗ (dats m ρ 0 c).owesAt () (t0_0 : Fin cfg0.N).succ) ⊢ iprop(Φ₁ m c ∗ (dats m ρ 0 c).owesAt () (t0_0 : Fin cfg0.N).succ ∗ emp)
      iintro ⟨H1, HO⟩
      isplitl [H1]; · iexact H1
      isplitl [HO]; · iexact HO
      iempintro
  iapply hw
  iapply (body_wp m ρ c)
  isplitl [H0] <;> iassumption

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start argsPre ownsTc
  rw [show xA = Memref.whole main_arg0 from rfl, show wA = Memref.whole main_arg1 from rfl, show oA = Memref.whole main_v1 from rfl]
  iintro ⟨⟨Hx, Hw, Ho⟩, Hlev, Hcr, -, HG⟩
  imodintro
  isplitl
  swap; · iempintro
  isplitl [Hx Hw Ho]
  · isplitl [Hx]; · iapply (Entails.of_eq (owns_whole (c : Thread nD τ) main_arg0 fullShare (xin m c)).symm); iexact Hx
    isplitl [Hw]; · iapply (Entails.of_eq (owns_whole (c : Thread nD τ) main_arg1 fullShare (win m c)).symm); iexact Hw
    iexists _; iapply (Entails.of_eq (owns_whole (c : Thread nD τ) main_v1 fullShare _).symm); iexact Ho
  isplitl [Hlev]; · iexact Hlev
  isplitl [Hcr]; · iapply (creds (F := F) c); iexact Hcr
  iexact HG

theorem ex_whole (c : Dev nD) (b : Ref sig .tc) :
    (iprop(∃ f : Buf (Elt F) ((c : Thread nD τ).loc b), ((c : Thread nD τ).loc b) ↦{fullShare} f) : sProp 𝕄)
      = iprop(∃ X, ownsTc c (Memref.whole b) fullShare X) := by
  unfold ownsTc
  simp only [owns_whole]
theorem scr_eq (c : Dev nD) : (Pipeline.scopedRest (Ix := Unit) (Name := ℕ) (U := UU) (Lvl := ℕ) (Val := Elt F) cfg0.spec c : sProp 𝕄) = scr c := by
  rw [scopedRest0_eq]
  simp only [ex_whole]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ argsPost m c) ∗ Pipeline.ownSems0 osem c ∗ Pipeline.scopedRest cfg0.spec c) := by
  rw [show (dats m ρ 0 c).Φ (Fin.last cfg0.N) = Φ₁ m c from rfl, scr_eq, ownSems0_eq, unscopedSems0_eq]
  unfold Φ₁
  iintro H; iexact H

theorem waits (c : Dev nD) : (levAts L lv : sProp 𝕄) ⊢ Pipeline.cellsWaits cfgs (dats m ρ) () 0 c :=
  Pipeline.cellsWaits_intro cfgs (dats m ρ) () 0 c fun w s t => w.elim0

theorem read_args (c : Dev nD) (s' : Phys nD τ sig (Elt F)) :
    iprop(argsPost m c ∗ SI s') ⊢ (iprop(⌜s'.mem.mem ((c : Thread nD τ).loc main_arg0) = xin m c ∧ s'.mem.mem ((c : Thread nD τ).loc main_arg1) = win m c
      ∧ s'.mem.mem ((c : Thread nD τ).loc main_v1) = outB m c⌝ ∗ SI s') : sProp 𝕄) := by
  have hr (b : Ref sig .tc) (X : Buf (Elt F) ((c : Thread nD τ).loc b)) :
      iprop(((c : Thread nD τ).loc b ↦{fullShare} X) ∗ SI s') ⊢ (iprop(⌜s'.mem.mem ((c : Thread nD τ).loc b) = X⌝ ∗ SI s') : sProp 𝕄) := by
    have h := pointsTo_read_all (Ix := Unit) (Name := ℕ) (U := UU) (Lvl := ℕ) (Finset.univ : Finset (Fin 1)) (fun _ => (c : Thread nD τ).loc b) (fun _ => X) s'
    rw [bigSep_univ_eq_bigSepL [0] (by decide) (by decide)] at h
    iintro H
    ihave H := h $$ [H]
    · iexact H
    icases H with ⟨%e, H⟩
    isplitr; · ipureintro; exact e 0 (Finset.mem_univ _)
    iexact H
  unfold argsPost ownsTc
  rw [show xA = Memref.whole main_arg0 from rfl, show wA = Memref.whole main_arg1 from rfl, show oA = Memref.whole main_v1 from rfl]
  iintro ⟨⟨Hx, Hw, Ho⟩, HSI⟩
  ihave Hx := (Entails.of_eq (owns_whole (c : Thread nD τ) main_arg0 fullShare (xin m c))) $$ Hx
  ihave Hw := (Entails.of_eq (owns_whole (c : Thread nD τ) main_arg1 fullShare (win m c))) $$ Hw
  ihave Ho := (Entails.of_eq (owns_whole (c : Thread nD τ) main_v1 fullShare (outB m c))) $$ Ho
  ihave H := (hr main_arg0 (xin m c)) $$ [Hx HSI]
  · isplitl [Hx] <;> iassumption
  icases H with ⟨%e1, HSI⟩
  ihave H := (hr main_arg1 (win m c)) $$ [Hw HSI]
  · isplitl [Hw] <;> iassumption
  icases H with ⟨%e2, HSI⟩
  ihave H := (hr main_v1 (outB m c)) $$ [Ho HSI]
  · isplitl [Ho] <;> iassumption
  icases H with ⟨%e3, HSI⟩
  isplitr; · ipureintro; exact ⟨e1, e2, e3⟩
  iexact HSI

/-- What the run leaves on device `c`. -/
def Ends (c : Dev nD) (s : MemSt nD τ sig (Elt F)) : Prop :=
  s.mem ((c : Thread nD τ).loc main_arg0) = xin m c ∧ s.mem ((c : Thread nD τ).loc main_arg1) = win m c ∧ s.mem ((c : Thread nD τ).loc main_v1) = outB m c

/-- Every weakly fair execution of the mesh from zero counters terminates with every device's arguments
    unchanged, its result `outB`, and every counter at zero. -/
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ [HX] with HG
      · iexact HX
      imodintro
      isplitl [HP] <;> iassumption)
    (hglob := glob m)
    (hA := fun _ _ => rfl) (hpf := fun _ k => k.elim0)
    (X := start m) (Y := fun c => iprop(unscopedSems0 c ∗ argsPost m c)) (Z := fun _ => iprop(emp))
    (hX := start_intro m ρ) (hin := phi0_intro m ρ) (hout := phi1_exit m ρ)
    (QY := fun c s => Ends m c s ∧ ∀ sm : SemLoc sig, sm.isScoped .tc = false → s.sem ((c.tc : Thread nD τ), sm) = 0)
    (hY := fun c s' => by
      iintro ⟨⟨Hu, Ha⟩, -, HSI⟩
      ihave H := (read_args m c s') $$ [Ha HSI]
      · isplitl [Ha] <;> iassumption
      icases H with ⟨%e, HSI⟩
      imod (Pipeline.unscopedSems0_read (X := unscopedSems0 c) (c := c) fupd_intro s') $$ [Hu HSI] with H
      · isplitl [Hu] <;> iassumption
      icases H with ⟨%e', HSI⟩
      imodintro
      isplitr; · ipureintro; exact ⟨e, e'⟩
      iexact HSI)
    (hQ := fun _ h hs => ⟨fun c => (h c).2.2.1, sem_eq_zero hs fun c => (h c).2.2.2⟩)

end Cert.KernelIdeal.Run

end
-- ==== Proof.KernelIdeal.Value.lean ====
/-
The values: over the extended reals, what the kernel leaves on device `c` is rows `1024 c …` of the
reference's result. Each tile adds the four devices' partial products in ring order; their sum over the
devices is the contraction over all 4096 positions, tile by tile.
-/
module

public import proofs.«01_k».proof.Proof.KernelIdeal.Run
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.ValueIdx
public import Idealize.ShloMosaic.Lib.Layout
public import Idealize.ShloMosaic.Lib.Pointwise.Sums

@[expose] public section

noncomputable section

namespace Cert.KernelIdeal.Run

open Cert.KernelIdeal Cert.KernelIdeal.Gen
open Idealize.ShloMosaic Idealize.ShloMosaic.TcCoe Idealize.ShloMosaic.ValueIdx Idealize.ShloMosaic.StackMember
open scoped BigOperators

/-- One entry's activation, as the reference associates the cube. -/
def act (y : EReal) : EReal :=
  Ideal.ofBits .f32 0x3F000000#32 * y
    * (Ideal.ofBits .f32 0x3F800000#32 + Ideal.tanh (Ideal.ofBits .f32 0x3F4C422A#32 * (y + Ideal.ofBits .f32 0x3D372713#32 * (y * y * y))))

theorem gelu_apply (y : FVec Ideal S1024x1024 .f32) (t : S1024x1024.Idx) : geluV y t = act (y t) := by
  show Ideal.ofBits .f32 0x3F000000#32 * y t
    * (Ideal.ofBits .f32 0x3F800000#32 + Ideal.tanh (Ideal.ofBits .f32 0x3F4C422A#32 * (y t + Ideal.ofBits .f32 0x3D372713#32 * y t * y t * y t))) = _
  unfold act
  rw [mul_assoc (Ideal.ofBits .f32 0x3D372713#32 * y t), mul_assoc (Ideal.ofBits .f32 0x3D372713#32), ← mul_assoc (y t)]

/-! ## The reference's result -/

abbrev refDot (X : FVec Ideal ⟨2, ![4096, 4096]⟩ .f32) (Y : FVec Ideal ⟨2, ![4096, 8192]⟩ .f32) : FVec Ideal ⟨2, ![4096, 8192]⟩ .f32 :=
  Host.dotGeneral Cert.ReferenceIdeal.dot_S4096x4096_S4096x8192_S4096x8192_1_0_0_1_n_n none X Y
/-- The reference's result of the whole operands. -/
def ref (X : FVec Ideal ⟨2, ![4096, 4096]⟩ .f32) (Y : FVec Ideal ⟨2, ![4096, 8192]⟩ .f32) : FVec Ideal ⟨2, ![4096, 8192]⟩ .bf16 :=
  fun i => act (refDot X Y i)

/-- Row `a` of `X` against column `b` of `Y`, over device `d`'s stretch of the contracted positions. -/
def part (X : FVec Ideal ⟨2, ![4096, 4096]⟩ .f32) (Y : FVec Ideal ⟨2, ![4096, 8192]⟩ .f32) (a : Fin 4096) (b : Fin 8192) (d : Fin 4) : EReal :=
  ∑ k : Fin 1024, X (ValueIdx.ix2 a ⟨d.val * 1024 + k.val, by omega⟩) * Y (ValueIdx.ix2 ⟨d.val * 1024 + k.val, by omega⟩ b)

theorem refDot_apply (X : FVec Ideal ⟨2, ![4096, 4096]⟩ .f32) (Y : FVec Ideal ⟨2, ![4096, 8192]⟩ .f32) (a : Fin 4096) (b : Fin 8192) :
    refDot X Y (ValueIdx.ix2 a b) = ∑ d : Fin 4, part X Y a b d := by
  unfold refDot part
  rw [show Cert.ReferenceIdeal.dot_S4096x4096_S4096x8192_S4096x8192_1_0_0_1_n_n = DotDims.plain 4096 4096 8192 from rfl, dotGeneral_plain_apply,
    Fin.sum_univ_tiles 4 1024 rfl]

/-! ## The kernel's tiles -/

variable (m : (ℓ : Loc nD τ sig) → Buf (Elt Ideal) ℓ)
variable (X : FVec Ideal ⟨2, ![4096, 4096]⟩ .f32) (Y : FVec Ideal ⟨2, ![4096, 8192]⟩ .f32)

theorem half_apply (x : Vec Ideal S1024x1024 .f32) (t : S1024x1024.Idx) : halfV x t = x t := by
  unfold halfV
  rw [shapeCast_self]
  rfl

theorem prod_apply (hX : ∀ c, xin m c = Layout.block ⟨2, ![4096, 1024]⟩ ⟨2, ![4096, 4096]⟩ 1 4 c X)
    (hY : ∀ c, win m c = Layout.block ⟨2, ![1024, 8192]⟩ ⟨2, ![4096, 8192]⟩ 0 4 c Y)
    (d : Dev nD) (r : Fin 2) (j i : Fin 4) (s b : Fin 1024) (g : Fin 4096) (hg : g.val = 1024 * ((d.val + i.val) % 4) + s.val)
    (q : Fin 8192) (hq : q.val = 4096 * r.val + 1024 * j.val + b.val) :
    prod m d r j i (ValueIdx.ix2 s b) = part X Y g q d := by
  have hd : d.val < 4 := d.isLt
  unfold prod part
  rw [show dot_S1024x1024_S1024x1024_S1024x1024_1_0_0_1_n_n = DotDims.plain 1024 1024 1024 from rfl]
  refine (Ideal.matmul_plain_apply none _ _ _ s b).trans ?_
  rw [show (constant S1024x1024 .f32 0x00000000#32 : FVec Ideal S1024x1024 .f32) (ValueIdx.ix2 s b) = 0 from Ideal.ofBits_zero_f32, zero_add]
  refine Finset.sum_congr rfl fun k _ => ?_
  rw [half_apply]
  have e1 : xpart m d i (ValueIdx.ix2 s k) = X (ValueIdx.ix2 g ⟨d.val * 1024 + k.val, by omega⟩) := by
    unfold xpart
    rw [hX, Layout.block_apply]
    refine congrArg X (funext fun a => Fin.ext ?_)
    have ho := k0_off1_eq d i
    match a with
    | ⟨0, _⟩ =>
      show k0_off1 d (BitVec.ofNat 32 i.val) 0 + 1 * s.val = g.val
      rw [ho, hg]
      show 1024 * ((d.val + i.val) % 4) + 1 * s.val = _
      omega
    | ⟨1, _⟩ =>
      show d.val * 1024 + (k0_off1 d (BitVec.ofNat 32 i.val) 1 + 1 * k.val) = d.val * 1024 + k.val
      rw [ho]
      show d.val * 1024 + (0 + 1 * k.val) = _
      omega
  have e2 : wpart m d r j (ValueIdx.ix2 k b) = Y (ValueIdx.ix2 ⟨d.val * 1024 + k.val, by omega⟩ q) := by
    unfold wpart
    rw [hY, Layout.block_apply]
    refine congrArg Y (funext fun a => Fin.ext ?_)
    match a with
    | ⟨0, _⟩ =>
      show d.val * 1024 + (0 + 1 * k.val) = d.val * 1024 + k.val
      omega
    | ⟨1, _⟩ =>
      show 4096 * r.val + 1024 * j.val + 1 * b.val = q.val
      omega
  show xpart m d i (ValueIdx.ix2 s k) * wpart m d r j (ValueIdx.ix2 k b) = _
  rw [e1, e2]

theorem fin_apply (hX : ∀ c, xin m c = Layout.block ⟨2, ![4096, 1024]⟩ ⟨2, ![4096, 4096]⟩ 1 4 c X)
    (hY : ∀ c, win m c = Layout.block ⟨2, ![1024, 8192]⟩ ⟨2, ![4096, 8192]⟩ 0 4 c Y)
    (c : Dev nD) (r : Fin 2) (j : Fin 4) (s b : Fin 1024) (g : Fin 4096) (hg : g.val = 1024 * c.val + s.val)
    (q : Fin 8192) (hq : q.val = 4096 * r.val + 1024 * j.val + b.val) :
    fin m c r j (ValueIdx.ix2 s b) = ref X Y (ValueIdx.ix2 g q) := by
  have hc := c.isLt
  have e : fin m c r j (ValueIdx.ix2 s b) = act (prod m (up r (up r (up r c))) r j (ci r 0) (ValueIdx.ix2 s b) + prod m (up r (up r c)) r j (ci r 1) (ValueIdx.ix2 s b)
      + prod m (up r c) r j (ci r 2) (ValueIdx.ix2 s b) + prod m c r j (ci r 3) (ValueIdx.ix2 s b)) := gelu_apply _ _
  rw [e]
  unfold ref
  rw [refDot_apply]
  have hp (d : Dev nD) (i : Fin 4) (hi : (d.val + i.val) % 4 = c.val) : prod m d r j i (ValueIdx.ix2 s b) = part X Y g q d :=
    prod_apply m X Y hX hY d r j i s b g (by rw [hi]; exact hg) q hq
  have f0 : ∀ (r : Fin 2) (c : Dev nD), ((up r (up r (up r c))).val + (ci r 0).val) % 4 = c.val := by decide
  have f1 : ∀ (r : Fin 2) (c : Dev nD), ((up r (up r c)).val + (ci r 1).val) % 4 = c.val := by decide
  have f2 : ∀ (r : Fin 2) (c : Dev nD), ((up r c).val + (ci r 2).val) % 4 = c.val := by decide
  have f3 : ∀ (r : Fin 2) (c : Dev nD), (c.val + (ci r 3).val) % 4 = c.val := by decide
  rw [hp _ _ (f0 r c), hp _ _ (f1 r c), hp _ _ (f2 r c), hp _ _ (f3 r c)]
  have hs : ∀ (r : Fin 2) (c : Dev nD) (P : Fin 4 → EReal), P (up r (up r (up r c))) + P (up r (up r c)) + P (up r c) + P c = ∑ d : Fin 4, P d := by
    intro r c P
    rw [Fin.sum_univ_four]
    match r, c with
    | 0, 0 => show P 1 + P 2 + P 3 + P 0 = _; abel
    | 0, 1 => show P 2 + P 3 + P 0 + P 1 = _; abel
    | 0, 2 => show P 3 + P 0 + P 1 + P 2 = _; abel
    | 0, 3 => show P 0 + P 1 + P 2 + P 3 = _; abel
    | 1, 0 => show P 3 + P 2 + P 1 + P 0 = _; abel
    | 1, 1 => show P 0 + P 3 + P 2 + P 1 = _; abel
    | 1, 2 => show P 1 + P 0 + P 3 + P 2 = _; abel
    | 1, 3 => show P 2 + P 1 + P 0 + P 3 = _; abel
  rw [hs r c]

/-- Device `c`'s result is block `c` of the reference's. -/
theorem out_block (hX : ∀ c, xin m c = Layout.block ⟨2, ![4096, 1024]⟩ ⟨2, ![4096, 4096]⟩ 1 4 c X)
    (hY : ∀ c, win m c = Layout.block ⟨2, ![1024, 8192]⟩ ⟨2, ![4096, 8192]⟩ 0 4 c Y) (c : Dev nD) :
    outB m c = Layout.block ⟨2, ![1024, 8192]⟩ ⟨2, ![4096, 8192]⟩ 0 4 c (ref X Y) := by
  funext i
  rw [Layout.block_apply]
  have h0 : (i 0).val < 1024 := (i 0).isLt
  have h1 : (i 1).val < 8192 := (i 1).isLt
  have hc : c.val < 4 := c.isLt
  let r : Fin 2 := ⟨(i 1).val / 4096, by omega⟩
  let j : Fin 4 := ⟨(i 1).val % 4096 / 1024, by omega⟩
  let s : Fin 1024 := ⟨(i 0).val, h0⟩
  let b : Fin 1024 := ⟨(i 1).val % 1024, by omega⟩
  have hb : 4096 * r.val + 1024 * j.val + b.val = (i 1).val := by
    show 4096 * ((i 1).val / 4096) + 1024 * ((i 1).val % 4096 / 1024) + (i 1).val % 1024 = _
    omega
  have hi : i = (colR r j).emb (ValueIdx.ix2 s b) := by
    funext a
    apply Fin.ext
    match a with
    | ⟨0, _⟩ =>
      show (i 0).val = 0 + 1 * (i 0).val
      omega
    | ⟨1, _⟩ =>
      show (i 1).val = 4096 * r.val + 1024 * j.val + 1 * b.val
      omega
  rw [show outB m c i = fin m c r j (ValueIdx.ix2 s b) from (congrArg (outB m c) hi).trans (outB_emb m c r j _)]
  rw [fin_apply m X Y hX hY c r j s b ⟨1024 * c.val + (i 0).val, by omega⟩ rfl ⟨(i 1).val, h1⟩ hb.symm]
  refine congrArg (ref X Y) (funext fun a => Fin.ext ?_)
  match a with
  | ⟨0, _⟩ =>
    show 1024 * c.val + (i 0).val = c.val * 1024 + (i 0).val
    omega
  | ⟨1, _⟩ => rfl

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

theorem quiescent_kernel : Cert.quiescent_Kernel (hKernel := Cert.Kernel.Gen.facts) := fun m g _ =>
  (θ_run _ _ _).mono (fun _ h => ⟨fun c => ⟨(h.1 c).1, (h.1 c).2.1⟩, h.2⟩) (Cert.Kernel.Run.run_main m g)
theorem quiescent_ideal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Run.run_main m g)
/-- The reference has no semaphores, so its counters are at zero throughout. -/
theorem quiescent_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The idealized kernel's result on device `c` is block `c` of the idealized reference's. -/
theorem algebraic : Cert.algebraic_KernelIdeal_ReferenceIdeal (hKernelIdeal := Cert.KernelIdeal.Gen.facts) (hReferenceIdeal := Cert.ReferenceIdeal.Gen.facts) :=
  fun m g m' g' _ hin =>
    ⟨Cert.KernelIdeal.Run.ref (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run _ _ _).mono (fun _ h c => ⟨(h.1 c).2.2.trans (Cert.KernelIdeal.Run.out_block m _ _ (fun c => (hin c).1) (fun c => (hin c).2) c), (h.1 c).1, (h.1 c).2.1⟩)
        (Cert.KernelIdeal.Run.run_main m g),
      (θ_run _ _ _).mono (fun _ h => ⟨(h 0).1.trans rfl, (h 0).2⟩) (Cert.ReferenceIdeal.Value.run m' g')⟩

theorem claim : Cert.Claim := ⟨Cert.Kernel.Gen.facts, Cert.KernelIdeal.Gen.facts, Cert.ReferenceIdeal.Gen.facts,
  quiescent_kernel, quiescent_ideal, quiescent_reference, trivial, algebraic⟩

end Cert.Proof

end
